-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x192x640 : Shape := ⟨4, ![8, 3, 192, 640]⟩
abbrev S8x50x192x640 : Shape := ⟨4, ![8, 50, 192, 640]⟩
abbrev S1x1x192x640 : Shape := ⟨4, ![1, 1, 192, 640]⟩
abbrev S192x640 : Shape := ⟨2, ![192, 640]⟩
abbrev S1x640 : Shape := ⟨2, ![1, 640]⟩
abbrev S191x640 : Shape := ⟨2, ![191, 640]⟩
abbrev S192x1 : Shape := ⟨2, ![192, 1]⟩
abbrev S192x639 : Shape := ⟨2, ![192, 639]⟩
abbrev S8x368640 : Shape := ⟨2, ![8, 368640]⟩
abbrev S8x100 : Shape := ⟨2, ![8, 100]⟩
abbrev S_ : Shape := ⟨0, ![]⟩
abbrev S800 : Shape := ⟨1, ![800]⟩
abbrev S8x100x1 : Shape := ⟨3, ![8, 100, 1]⟩
abbrev S50 : Shape := ⟨1, ![50]⟩
abbrev S1x1x50 : Shape := ⟨3, ![1, 1, 50]⟩
abbrev S8x100x50 : Shape := ⟨3, ![8, 100, 50]⟩
abbrev S8 : Shape := ⟨1, ![8]⟩
abbrev S8x1x1 : Shape := ⟨3, ![8, 1, 1]⟩
abbrev S32x1250 : Shape := ⟨2, ![32, 1250]⟩
abbrev S32x30 : Shape := ⟨2, ![32, 30]⟩
abbrev S32x1280 : Shape := ⟨2, ![32, 1280]⟩
abbrev S49152000 : Shape := ⟨1, ![49152000]⟩
abbrev S1280 : Shape := ⟨1, ![1280]⟩
abbrev S1x1280 : Shape := ⟨2, ![1, 1280]⟩
abbrev S16 : Shape := ⟨1, ![16]⟩
abbrev S800x50 : Shape := ⟨2, ![800, 50]⟩
abbrev S800x1 : Shape := ⟨2, ![800, 1]⟩
abbrev S800x2 : Shape := ⟨2, ![800, 2]⟩
abbrev S800x53 : Shape := ⟨2, ![800, 53]⟩

abbrev nBuf : Table → Nat
  | .hbm => 116
  | .local .tc .vmem => 4
  | .local .scVector .vmem => 3
  | _ => 0

abbrev bufTy : (tb : Table) → Fin (nBuf tb) → BufTy
  | .hbm, ⟨0, _⟩ => ⟨S8x3x192x640, .f32⟩
  | .hbm, ⟨1, _⟩ => ⟨S8x50x192x640, .f32⟩
  | .hbm, ⟨2, _⟩ => ⟨S8x3x192x640, .f32⟩
  | .hbm, ⟨3, _⟩ => ⟨S8x368640, .f32⟩
  | .hbm, ⟨4, _⟩ => ⟨S8x100, .f32⟩
  | .hbm, ⟨5, _⟩ => ⟨S8x100, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S8x100, .i32⟩
  | .hbm, ⟨13, _⟩ => ⟨S8x100, .i32⟩
  | .hbm, ⟨14, _⟩ => ⟨S_, .i32⟩
  | .hbm, ⟨15, _⟩ => ⟨S8x100, .i32⟩
  | .hbm, ⟨16, _⟩ => ⟨S8x100, .i1⟩
  | .hbm, ⟨17, _⟩ => ⟨S_, .i32⟩
  | .hbm, ⟨18, _⟩ => ⟨S8x100, .i32⟩
  | .hbm, ⟨19, _⟩ => ⟨S8x100, .i1⟩
  | .hbm, ⟨20, _⟩ => ⟨S_, .i32⟩
  | .hbm, ⟨21, _⟩ => ⟨S_, .i1⟩
  | .hbm, ⟨22, _⟩ => ⟨S8x100, .i1⟩
  | .hbm, ⟨23, _⟩ => ⟨S8x100, .i1⟩
  | .hbm, ⟨24, _⟩ => ⟨S8x100, .i1⟩
  | .hbm, ⟨25, _⟩ => ⟨S8x100, .i32⟩
  | .hbm, ⟨26, _⟩ => ⟨S8x100, .i32⟩
  | .hbm, ⟨27, _⟩ => ⟨S8x100, .i32⟩
  | .hbm, ⟨28, _⟩ => ⟨S_, .i32⟩
  | .hbm, ⟨29, _⟩ => ⟨S_, .i32⟩
  | .hbm, ⟨30, _⟩ => ⟨S8x100, .i32⟩
  | .hbm, ⟨31, _⟩ => ⟨S8x100, .i32⟩
  | .hbm, ⟨32, _⟩ => ⟨S8x100, .i32⟩
  | .hbm, ⟨33, _⟩ => ⟨S_, .i32⟩
  | .hbm, ⟨34, _⟩ => ⟨S8x100, .i32⟩
  | .hbm, ⟨35, _⟩ => ⟨S8x100, .i1⟩
  | .hbm, ⟨36, _⟩ => ⟨S8x100, .i32⟩
  | .hbm, ⟨37, _⟩ => ⟨S8x100, .i32⟩
  | .hbm, ⟨38, _⟩ => ⟨S_, .i32⟩
  | .hbm, ⟨39, _⟩ => ⟨S8x100, .i32⟩
  | .hbm, ⟨40, _⟩ => ⟨S8x100, .i1⟩
  | .hbm, ⟨41, _⟩ => ⟨S8x100, .i1⟩
  | .hbm, ⟨42, _⟩ => ⟨S_, .i32⟩
  | .hbm, ⟨43, _⟩ => ⟨S8x100, .i32⟩
  | .hbm, ⟨44, _⟩ => ⟨S8x100, .i32⟩
  | .hbm, ⟨45, _⟩ => ⟨S8x100, .i32⟩
  | .hbm, ⟨46, _⟩ => ⟨S8x100, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S8x100, .i32⟩
  | .hbm, ⟨54, _⟩ => ⟨S8x100, .i32⟩
  | .hbm, ⟨55, _⟩ => ⟨S_, .i32⟩
  | .hbm, ⟨56, _⟩ => ⟨S8x100, .i32⟩
  | .hbm, ⟨57, _⟩ => ⟨S8x100, .i1⟩
  | .hbm, ⟨58, _⟩ => ⟨S_, .i32⟩
  | .hbm, ⟨59, _⟩ => ⟨S8x100, .i32⟩
  | .hbm, ⟨60, _⟩ => ⟨S8x100, .i1⟩
  | .hbm, ⟨61, _⟩ => ⟨S_, .i32⟩
  | .hbm, ⟨62, _⟩ => ⟨S_, .i1⟩
  | .hbm, ⟨63, _⟩ => ⟨S8x100, .i1⟩
  | .hbm, ⟨64, _⟩ => ⟨S8x100, .i1⟩
  | .hbm, ⟨65, _⟩ => ⟨S8x100, .i1⟩
  | .hbm, ⟨66, _⟩ => ⟨S8x100, .i32⟩
  | .hbm, ⟨67, _⟩ => ⟨S8x100, .i32⟩
  | .hbm, ⟨68, _⟩ => ⟨S8x100, .i32⟩
  | .hbm, ⟨69, _⟩ => ⟨S8x100, .f32⟩
  | .hbm, ⟨70, _⟩ => ⟨S800, .f32⟩
  | .hbm, ⟨71, _⟩ => ⟨S_, .f32⟩
  | .hbm, ⟨72, _⟩ => ⟨S800, .f32⟩
  | .hbm, ⟨73, _⟩ => ⟨S800, .i1⟩
  | .hbm, ⟨74, _⟩ => ⟨S800, .f32⟩
  | .hbm, ⟨75, _⟩ => ⟨S8x100x1, .i32⟩
  | .hbm, ⟨76, _⟩ => ⟨S50, .i32⟩
  | .hbm, ⟨77, _⟩ => ⟨S_, .i32⟩
  | .hbm, ⟨78, _⟩ => ⟨S50, .i32⟩
  | .hbm, ⟨79, _⟩ => ⟨S50, .i32⟩
  | .hbm, ⟨80, _⟩ => ⟨S1x1x50, .i32⟩
  | .hbm, ⟨81, _⟩ => ⟨S8x100x50, .i32⟩
  | .hbm, ⟨82, _⟩ => ⟨S8x100x50, .i32⟩
  | .hbm, ⟨83, _⟩ => ⟨S8x100x50, .i32⟩
  | .hbm, ⟨84, _⟩ => ⟨S8, .i32⟩
  | .hbm, ⟨85, _⟩ => ⟨S_, .i32⟩
  | .hbm, ⟨86, _⟩ => ⟨S8, .i32⟩
  | .hbm, ⟨87, _⟩ => ⟨S8, .i32⟩
  | .hbm, ⟨88, _⟩ => ⟨S8x1x1, .i32⟩
  | .hbm, ⟨89, _⟩ => ⟨S8x100x50, .i32⟩
  | .hbm, ⟨90, _⟩ => ⟨S8x100x50, .i32⟩
  | .hbm, ⟨91, _⟩ => ⟨S32x1250, .i32⟩
  | .hbm, ⟨92, _⟩ => ⟨S_, .i32⟩
  | .hbm, ⟨93, _⟩ => ⟨S32x30, .i32⟩
  | .hbm, ⟨94, _⟩ => ⟨S32x1280, .i32⟩
  | .hbm, ⟨95, _⟩ => ⟨S8x100x1, .f32⟩
  | .hbm, ⟨96, _⟩ => ⟨S8x100x50, .f32⟩
  | .hbm, ⟨97, _⟩ => ⟨S32x1250, .f32⟩
  | .hbm, ⟨98, _⟩ => ⟨S_, .f32⟩
  | .hbm, ⟨99, _⟩ => ⟨S32x30, .f32⟩
  | .hbm, ⟨100, _⟩ => ⟨S32x1280, .f32⟩
  | .hbm, ⟨101, _⟩ => ⟨S49152000, .f32⟩
  | .hbm, ⟨102, _⟩ => ⟨S32x1280, .f32⟩
  | .hbm, ⟨103, _⟩ => ⟨S32x1250, .f32⟩
  | .hbm, ⟨104, _⟩ => ⟨S800x50, .f32⟩
  | .hbm, ⟨105, _⟩ => ⟨S800, .f32⟩
  | .hbm, ⟨106, _⟩ => ⟨S800x1, .f32⟩
  | .hbm, ⟨107, _⟩ => ⟨S800, .f32⟩
  | .hbm, ⟨108, _⟩ => ⟨S800, .f32⟩
  | .hbm, ⟨109, _⟩ => ⟨S800x1, .f32⟩
  | .hbm, ⟨110, _⟩ => ⟨S800x1, .f32⟩
  | .hbm, ⟨111, _⟩ => ⟨S800x2, .f32⟩
  | .hbm, ⟨112, _⟩ => ⟨S800x1, .f32⟩
  | .hbm, ⟨113, _⟩ => ⟨S800x2, .f32⟩
  | .hbm, ⟨114, _⟩ => ⟨S800x2, .f32⟩
  | .hbm, ⟨115, _⟩ => ⟨S800x53, .f32⟩
  | .local .tc .vmem, ⟨0, _⟩ => ⟨S1x1x192x640, .f32⟩
  | .local .tc .vmem, ⟨1, _⟩ => ⟨S1x1x192x640, .f32⟩
  | .local .tc .vmem, ⟨2, _⟩ => ⟨S1x1x192x640, .f32⟩
  | .local .tc .vmem, ⟨3, _⟩ => ⟨S1x1x192x640, .f32⟩
  | .local .scVector .vmem, ⟨0, _⟩ => ⟨S1280, .i32⟩
  | .local .scVector .vmem, ⟨1, _⟩ => ⟨S1280, .f32⟩
  | .local .scVector .vmem, ⟨2, _⟩ => ⟨S1280, .f32⟩
  | _, _ => ⟨S8x3x192x640, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v3 : Ref sig .tc := ⟨.hbm, 45, rfl⟩
abbrev main_v4 : Ref sig .tc := ⟨.hbm, 46, rfl⟩
abbrev main_c_1 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_v5 : Ref sig .tc := ⟨.hbm, 56, rfl⟩
abbrev main_call2_v6 : Ref sig .tc := ⟨.hbm, 57, rfl⟩
abbrev main_call2_c_2 : Ref sig .tc := ⟨.hbm, 58, rfl⟩
abbrev main_call2_v7 : Ref sig .tc := ⟨.hbm, 59, rfl⟩
abbrev main_call2_v8 : Ref sig .tc := ⟨.hbm, 60, rfl⟩
abbrev main_call2_c_3 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_c_2 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_c_3 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_c_4 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_cst_5 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v33_scv : Ref sig .scVector := ⟨.hbm, 101, rfl⟩
abbrev main_v27_scv : Ref sig .scVector := ⟨.hbm, 94, rfl⟩
abbrev main_v32_scv : Ref sig .scVector := ⟨.hbm, 100, rfl⟩
abbrev main_v34_scv : Ref sig .scVector := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x192x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x192x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_161_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x3x192x640 : Shape := ⟨4, ![8, 3, 192, 640]⟩
abbrev S8x50x192x640 : Shape := ⟨4, ![8, 50, 192, 640]⟩
abbrev S_ : Shape := ⟨0, ![]⟩
abbrev S8x368640 : Shape := ⟨2, ![8, 368640]⟩
abbrev S8x100 : Shape := ⟨2, ![8, 100]⟩
abbrev S800x1 : Shape := ⟨2, ![800, 1]⟩
abbrev S800x2 : Shape := ⟨2, ![800, 2]⟩
abbrev S8x192x640x50 : Shape := ⟨4, ![8, 192, 640, 50]⟩
abbrev S8x122880x50 : Shape := ⟨3, ![8, 122880, 50]⟩
abbrev S8x100x1 : Shape := ⟨3, ![8, 100, 1]⟩
abbrev S1 : Shape := ⟨1, ![1]⟩
abbrev S1x1x1 : Shape := ⟨3, ![1, 1, 1]⟩
abbrev S8x100x50 : Shape := ⟨3, ![8, 100, 50]⟩
abbrev S800x50 : Shape := ⟨2, ![800, 50]⟩
abbrev S800 : Shape := ⟨1, ![800]⟩
abbrev S800x53 : Shape := ⟨2, ![800, 53]⟩

abbrev nBuf : Space → Nat
  | .hbm => 136
  | .vmem => 0
  | .smem => 0
  | _ => 0

abbrev hbmTy0_0 (i : Nat) : BufTy := match i % 128 with
  | 0 => ⟨S8x3x192x640, .f32⟩
  | 1 => ⟨S8x50x192x640, .f32⟩
  | 2 => ⟨S_, .f32⟩
  | 3 => ⟨S_, .f32⟩
  | 4 => ⟨S8x3x192x640, .f32⟩
  | 5 => ⟨S8x3x192x640, .i1⟩
  | 6 => ⟨S8x3x192x640, .f32⟩
  | 7 => ⟨S8x3x192x640, .f32⟩
  | 8 => ⟨S8x368640, .f32⟩
  | 9 => ⟨S8x100, .f32⟩
  | 10 => ⟨S8x100, .i32⟩
  | 11 => ⟨S_, .i32⟩
  | 12 => ⟨S_, .i32⟩
  | 13 => ⟨S8x100, .i32⟩
  | 14 => ⟨S8x100, .i32⟩
  | 15 => ⟨S8x100, .i32⟩
  | 16 => ⟨S_, .i32⟩
  | 17 => ⟨S8x100, .i32⟩
  | 18 => ⟨S8x100, .i1⟩
  | 19 => ⟨S8x100, .i32⟩
  | 20 => ⟨S8x100, .i32⟩
  | 21 => ⟨S_, .i32⟩
  | 22 => ⟨S8x100, .i32⟩
  | 23 => ⟨S8x100, .i1⟩
  | 24 => ⟨S8x100, .i1⟩
  | 25 => ⟨S_, .i32⟩
  | 26 => ⟨S8x100, .i32⟩
  | 27 => ⟨S8x100, .i32⟩
  | 28 => ⟨S8x100, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S8x100, .i32⟩
  | 36 => ⟨S8x100, .i32⟩
  | 37 => ⟨S_, .i32⟩
  | 38 => ⟨S8x100, .i32⟩
  | 39 => ⟨S8x100, .i1⟩
  | 40 => ⟨S_, .i32⟩
  | 41 => ⟨S8x100, .i32⟩
  | 42 => ⟨S8x100, .i1⟩
  | 43 => ⟨S_, .i32⟩
  | 44 => ⟨S_, .i1⟩
  | 45 => ⟨S8x100, .i1⟩
  | 46 => ⟨S8x100, .i1⟩
  | 47 => ⟨S8x100, .i1⟩
  | 48 => ⟨S8x100, .i32⟩
  | 49 => ⟨S8x100, .i32⟩
  | 50 => ⟨S8x100, .i32⟩
  | 51 => ⟨S_, .i32⟩
  | 52 => ⟨S_, .i32⟩
  | 53 => ⟨S8x100, .i32⟩
  | 54 => ⟨S8x100, .i32⟩
  | 55 => ⟨S8x100, .i32⟩
  | 56 => ⟨S_, .i32⟩
  | 57 => ⟨S8x100, .i32⟩
  | 58 => ⟨S8x100, .i1⟩
  | 59 => ⟨S8x100, .i32⟩
  | 60 => ⟨S8x100, .i32⟩
  | 61 => ⟨S_, .i32⟩
  | 62 => ⟨S8x100, .i32⟩
  | 63 => ⟨S8x100, .i1⟩
  | 64 => ⟨S8x100, .i1⟩
  | 65 => ⟨S_, .i32⟩
  | 66 => ⟨S8x100, .i32⟩
  | 67 => ⟨S8x100, .i32⟩
  | 68 => ⟨S8x100, .i32⟩
  | 69 => ⟨S8x100, .f32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S8x100, .i32⟩
  | 77 => ⟨S8x100, .i32⟩
  | 78 => ⟨S_, .i32⟩
  | 79 => ⟨S8x100, .i32⟩
  | 80 => ⟨S8x100, .i1⟩
  | 81 => ⟨S_, .i32⟩
  | 82 => ⟨S8x100, .i32⟩
  | 83 => ⟨S8x100, .i1⟩
  | 84 => ⟨S_, .i32⟩
  | 85 => ⟨S_, .i1⟩
  | 86 => ⟨S8x100, .i1⟩
  | 87 => ⟨S8x100, .i1⟩
  | 88 => ⟨S8x100, .i1⟩
  | 89 => ⟨S8x100, .i32⟩
  | 90 => ⟨S8x100, .i32⟩
  | 91 => ⟨S8x100, .i32⟩
  | 92 => ⟨S8x100, .f32⟩
  | 93 => ⟨S800x1, .f32⟩
  | 94 => ⟨S800x1, .f32⟩
  | 95 => ⟨S800x2, .f32⟩
  | 96 => ⟨S8x192x640x50, .f32⟩
  | 97 => ⟨S8x122880x50, .f32⟩
  | 98 => ⟨S8x100x1, .i32⟩
  | 99 => ⟨S_, .i32⟩
  | 100 => ⟨S8x100x1, .i32⟩
  | 101 => ⟨S8x100x1, .i1⟩
  | 102 => ⟨S_, .i32⟩
  | 103 => ⟨S8x100x1, .i32⟩
  | 104 => ⟨S8x100x1, .i32⟩
  | 105 => ⟨S8x100x1, .i32⟩
  | 106 => ⟨S1, .i32⟩
  | 107 => ⟨S_, .i32⟩
  | 108 => ⟨S8x100x1, .i32⟩
  | 109 => ⟨S8x100x1, .i1⟩
  | 110 => ⟨S1x1x1, .i32⟩
  | 111 => ⟨S8x100x1, .i32⟩
  | 112 => ⟨S8x100x1, .i1⟩
  | 113 => ⟨S8x100x1, .i1⟩
  | 114 => ⟨S_, .i1⟩
  | 115 => ⟨S8x100, .i1⟩
  | 116 => ⟨S8x100x50, .f32⟩
  | 117 => ⟨S8x100x50, .i1⟩
  | 118 => ⟨S_, .f32⟩
  | 119 => ⟨S8x100x50, .f32⟩
  | 120 => ⟨S8x100x50, .f32⟩
  | 121 => ⟨S800x50, .f32⟩
  | 122 => ⟨S800, .f32⟩
  | 123 => ⟨S_, .f32⟩
  | 124 => ⟨S800, .f32⟩
  | 125 => ⟨S800, .i1⟩
  | 126 => ⟨S800, .f32⟩
  | 127 => ⟨S800, .f32⟩
  | _ => ⟨S8x3x192x640, .f32⟩

abbrev hbmTy0_1 (i : Nat) : BufTy := match i % 128 with
  | 0 => ⟨S800x1, .f32⟩
  | 1 => ⟨S800x50, .f32⟩
  | 2 => ⟨S800x50, .f32⟩
  | 3 => ⟨S800x1, .f32⟩
  | 4 => ⟨S800x2, .f32⟩
  | 5 => ⟨S800x2, .f32⟩
  | 6 => ⟨S800x1, .f32⟩
  | 7 => ⟨S800x53, .f32⟩
  | _ => ⟨S8x3x192x640, .f32⟩

abbrev hbmTy (i : Nat) : BufTy := match i / 128 with
  | 0 => hbmTy0_0 i
  | 1 => hbmTy0_1 i
  | _ => ⟨S8x3x192x640, .f32⟩

abbrev bufTy : (tb : Table) → Fin (tcTables nBuf tb) → BufTy
  | .hbm, ⟨i, _⟩ => hbmTy i
  | _, _ => ⟨S8x3x192x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v7 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v8 : Ref sig .tc := ⟨.hbm, 68, rfl⟩
abbrev main_v9 : Ref sig .tc := ⟨.hbm, 69, rfl⟩
abbrev main_c_2 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_c_1 : Ref sig .tc := ⟨.hbm, 106, rfl⟩
abbrev main_call4_c_2 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_c_3 : Ref sig .tc := ⟨.hbm, 114, rfl⟩
abbrev main_call4_v11 : Ref sig .tc := ⟨.hbm, 115, rfl⟩
abbrev main_call4_v12 : Ref sig .tc := ⟨.hbm, 116, rfl⟩
abbrev main_call4_v13 : Ref sig .tc := ⟨.hbm, 117, rfl⟩
abbrev main_call4_cst : Ref sig .tc := ⟨.hbm, 118, rfl⟩
abbrev main_call4_v14 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_cst_3 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩

abbrev nD : Nat := 1
abbrev τ : Topo := Topo.v7x

variable {F : FTy → Type} [FloatOps F]
-- ==== Proof.Setup.lean ====
/-
  The program as the launch theorem sees it, the ghost state the proof uses, and what the SparseCore call's handshakes
  carry: each of the 32 tiles (`2` cores of `16` subcores) takes row `2 i + c` of the addresses, of the mask and of the
  result, and a 32nd share of the table, and brings them back, the result's row at the gathered words times the mask.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Poi

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts of the handshake semaphores and of the shared buffers the launch asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev ER : Emb (UP × Counters) (MT nD τ sig (HIx 1) (Elt F) ℕ UU ℕ) := embR
def EP : Emb UP (MT nD τ sig (HIx 1) (Elt F) ℕ UU ℕ) := (Emb.inl : Emb UP (UP × Counters)).trans ER

instance EP_landsIn : (EP (F := F)).LandsIn (upEmb : UEmb _ 𝕄) := by unfold EP; infer_instance

/-- Owning the launch's triple is owning the handshakes' part and the pipeline's part. -/
theorem ownU_parts (a : UH) (b : UP) :
    (ownU ((a, (b, 1)) : UU) : sProp 𝕄) ⊢ iprop(BI.own (EH a) ∗ BI.own (EP b)) := by
  iintro H
  ihave H' := (ownU_pair a ((b, 1) : UP × Counters)) $$ H
  icases H' with ⟨HA, HB⟩
  ihave HB' := (own_pair_emb (ER (F := F)) b (1 : Counters)) $$ HB
  icases HB' with ⟨HB, -⟩
  isplitl [HA]; · iexact HA
  iexact HB

/-! ## The operands of the SparseCore call -/

abbrev aLoc (d : Dev nD) : Loc nD τ sig := (SparseCore.T d).loc main_v27
abbrev kLoc (d : Dev nD) : Loc nD τ sig := (SparseCore.T d).loc main_v32
abbrev tLoc (d : Dev nD) : Loc nD τ sig := (SparseCore.T d).loc main_v33
abbrev oLoc (d : Dev nD) : Loc nD τ sig := (SparseCore.T d).loc main_v34

/-- The contents of the call's operands when it is reached: addresses, mask, table, and the result's old words. -/
structure Ops (F : FTy → Type) where
  a : S32x1280.Idx → Elt F .i32
  k : S32x1280.Idx → Elt F .f32
  t : S49152000.Idx → Elt F .f32
  o : S32x1280.Idx → Elt F .f32

/-- Word `n` of the table, when there is one. -/
def word (t : S49152000.Idx → Elt F .f32) (n : ℕ) (h : n < 49152000) : Elt F .f32 := t fun | ⟨0, _⟩ => ⟨n, h⟩

/-- Every address names a word of the table. -/
def Ops.InRange (o : Ops F) : Prop := ∀ j, (o.a j).toNat < 49152000

variable [FloatOps F]

/-- The call's result: at every place the word of the table the address names, times the mask. -/
def Ops.res (o : Ops F) (h : o.InRange) : S32x1280.Idx → Elt F .f32 := fun j =>
  FloatOps.mulf (word o.t (o.a j).toNat (h j)) (o.k j)

/-! ## Rows and shares -/

omit [FloatOps F]

theorem rdiv : 32 ∣ S32x1280.size 0 := ⟨1, rfl⟩
/-- Row `w` of a 32 × 1280 array. -/
abbrev row (w : Fin 32) : Rect S32x1280 := Rect.part (s := S32x1280) (a₀ := 0) rdiv w
/-- The row tile `(c, i)` works on: `2 i + c`. -/
def wid (p : Fin 2 × Fin 16) : Fin 32 := ⟨p.2.val * 2 + p.1.val, by omega⟩
abbrev rowSet (p : Fin 2 × Fin 16) : Finset S32x1280.Idx := (row (wid p)).set

theorem wid_injective : Function.Injective wid := by decide
theorem wid_surjective : Function.Surjective wid := by decide

theorem rows_disjoint : ∀ p ∈ (Finset.univ : Finset (Fin 2 × Fin 16)), ∀ q ∈ (Finset.univ : Finset (Fin 2 × Fin 16)), p ≠ q → Disjoint (rowSet p) (rowSet q) :=
  fun _ _ _ _ h => Rect.part_disjoint rdiv fun e => h (wid_injective e)

theorem rows_cover : (Finset.univ : Finset (Fin 2 × Fin 16)).biUnion rowSet = Finset.univ := by
  rw [← Rect.biUnion_part rdiv]
  ext x
  simp only [Finset.mem_biUnion, Finset.mem_univ, true_and]
  exact ⟨fun ⟨p, h⟩ => ⟨wid p, h⟩, fun ⟨w, h⟩ => (wid_surjective w).elim fun p e => ⟨p, by rw [rowSet, e]; exact h⟩⟩

/-- A share cut in `2 ^ n` pieces by halving: piece `i` goes left or right by `i`'s parity. -/
def piece : (n : ℕ) → PosShare TreeShare → ℕ → PosShare TreeShare
  | 0, q, _ => q
  | n + 1, q, i => piece n (if i % 2 = 0 then q.left else q.right) (i / 2)

/-- Numbers below `2 ^ (n + 1)` as a number below `2 ^ n` and a parity. -/
def parity (n : ℕ) : Fin (2 ^ n) × Fin 2 ≃ Fin (2 ^ (n + 1)) := finProdFinEquiv.trans (finCongr (by rw [pow_succ]))

theorem parity_val (n : ℕ) (x : Fin (2 ^ n) × Fin 2) : (parity n x).val = x.2.val + 2 * x.1.val := by
  simp [parity, finProdFinEquiv]

/-- Holding at a share is holding at every piece of it. -/
theorem pointsTo_pieces_halving {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{piece n q i.val} f
  | 0, q => (bigSep_univ_of_subsingleton (0 : Fin 1) (Φ := fun i : Fin (2 ^ 0) => (ℓ ↦[I]{piece 0 q i.val} f : sProp 𝕄))).symm
  | n + 1, q => by
    rw [bigSep_univ_equiv (parity n), bigSep_univ_prod,
      BI.Entails.antisymm (pointsTo_share (PosShare.mem_left_op_right q)).1 (pointsTo_share (PosShare.mem_left_op_right q)).2,
      pointsTo_pieces_halving I f n q.left, pointsTo_pieces_halving I f n q.right, ← bigSep_sep']
    refine bigSep_congr fun i _ => ?_
    rw [show (Finset.univ : Finset (Fin 2)) = {0, 1} from rfl, bigSep_insert (by decide), bigSep_singleton]
    congr 2 <;> simp only [piece, parity_val] <;> congr 1 <;> simp <;> omega

/-- Tile `(c, i)`'s share of the table. -/
abbrev tq (p : Fin 2 × Fin 16) : PosShare TreeShare := piece 4 (piece 1 fullShare p.1.val) p.2.val

theorem table_shares (d : Dev nD) (f : Buf (Elt F) (tLoc d)) :
    (tLoc d ↦{fullShare} f : sProp 𝕄) = bigSep Finset.univ fun p : Fin 2 × Fin 16 => tLoc d ↦{tq p} f := by
  rw [bigSep_univ_prod, pointsTo_pieces_halving Finset.univ f 1 fullShare]
  exact bigSep_congr fun c _ => pointsTo_pieces_halving Finset.univ f 4 _

/-- The addresses held whole are their rows held, tile by tile. -/
theorem a_rows (d : Dev nD) (f : Buf (Elt F) (aLoc d)) :
    (aLoc d ↦{fullShare} f : sProp 𝕄) = bigSep Finset.univ fun p : Fin 2 × Fin 16 => aLoc d ↦[rowSet p]{fullShare} f := by
  rw [← pointsTo_biUnion Finset.univ (ℓ := aLoc d) rowSet rows_disjoint, rows_cover]
/-- The same for the mask; -/
theorem k_rows (d : Dev nD) (f : Buf (Elt F) (kLoc d)) :
    (kLoc d ↦{fullShare} f : sProp 𝕄) = bigSep Finset.univ fun p : Fin 2 × Fin 16 => kLoc d ↦[rowSet p]{fullShare} f := by
  rw [← pointsTo_biUnion Finset.univ (ℓ := kLoc d) rowSet rows_disjoint, rows_cover]
/-- and for the result. -/
theorem o_rows (d : Dev nD) (f : Buf (Elt F) (oLoc d)) :
    (oLoc d ↦{fullShare} f : sProp 𝕄) = bigSep Finset.univ fun p : Fin 2 × Fin 16 => oLoc d ↦[rowSet p]{fullShare} f := by
  rw [← pointsTo_biUnion Finset.univ (ℓ := oLoc d) rowSet rows_disjoint, rows_cover]

/-! ## What the handshakes carry -/

variable [FloatOps F] (o : Ops F) (h : o.InRange)

/-- What tile `p` is given: its row of the addresses, of the mask and of the result, its share of the table. -/
abbrev given (d : Dev nD) (p : Fin 2 × Fin 16) : sProp 𝕄 :=
  iprop((aLoc d ↦[rowSet p]{fullShare} o.a) ∗ (kLoc d ↦[rowSet p]{fullShare} o.k) ∗ (tLoc d ↦{tq p} o.t) ∗ (oLoc d ↦[rowSet p]{fullShare} o.o))
/-- What tile `p` gives back: the same, its row of the result at the call's result. -/
abbrev back (d : Dev nD) (p : Fin 2 × Fin 16) : sProp 𝕄 :=
  iprop((aLoc d ↦[rowSet p]{fullShare} o.a) ∗ (kLoc d ↦[rowSet p]{fullShare} o.k) ∗ (tLoc d ↦{tq p} o.t) ∗ (oLoc d ↦[rowSet p]{fullShare} o.res h))

/-- Tile `(c, i)` of the call as a pair. -/
abbrev tile (c : Fin ((K (F := F)).nCore 0)) (i : Fin ((K (F := F)).nSub 0)) : Fin 2 × Fin 16 := (Fin.cast nCore_zero c, Fin.cast nSub_zero i)

/-- The call hands each SparseCore what its sixteen tiles are given, and gets back what they give back. -/
def P : (K (F := F)).Pay (nD := nD) (Val := Elt F) (Name := ℕ) (U := UU) where
  st := fun q d c => match q with | 0 => bigSep Finset.univ fun i => given o d (tile c i)
  dn := fun q d c => match q with | 0 => bigSep Finset.univ fun i => back o h d (tile c i)
  go := fun q d c i => match q with | 0 => given o d (tile c i)
  td := fun q d c i => match q with | 0 => back o h d (tile c i)
  x := fun _ _ => iprop(emp)

instance P_storable : (P (F := F) o h).IsStorable where
  st q d c := match q with
    | 0 => (inferInstance : BI.Storable (upEmb : UEmb _ 𝕄) (bigSep Finset.univ fun i => given o d (tile c i)))
  dn q d c := match q with
    | 0 => (inferInstance : BI.Storable (upEmb : UEmb _ 𝕄) (bigSep Finset.univ fun i => back o h d (tile c i)))
  go q d c i := match q with
    | 0 => (inferInstance : BI.Storable (upEmb : UEmb _ 𝕄) (given o d (tile c i)))
  td q d c i := match q with
    | 0 => (inferInstance : BI.Storable (upEmb : UEmb _ 𝕄) (back o h d (tile c i)))

/-- A SparseCore's hand-over to its tiles is the identity, both ways. -/
theorem vecSplit : (K (F := F)).VecSplit' (P o h) 0 := by
  intro d c
  show (bigSep Finset.univ fun i => given o d (tile c i)) ⊢ |={Set.univ}=> iprop(
    (bigSep Finset.univ fun i => given o d (tile c i))
      ∗ ((bigSep Finset.univ fun i => back o h d (tile c i)) -∗ bigSep Finset.univ fun i => back o h d (tile c i)))
  iintro H; imodintro
  isplitl [H]; · iexact H
  iintro H; iexact H

/-- The two SparseCores' parts together are all tiles' parts. -/
theorem all_tiles (Φ : Fin 2 × Fin 16 → sProp 𝕄) :
    (bigSep Finset.univ fun c : Fin ((K (F := F)).nCore 0) => bigSep Finset.univ fun i : Fin ((K (F := F)).nSub 0) => Φ (tile c i))
      = bigSep Finset.univ Φ := by
  rw [bigSep_univ_prod]; rfl

/-- The operands held whole are what the call is started with; -/
theorem st_eq (d : Dev nD) : (bigSep Finset.univ fun c : Fin ((K (F := F)).nCore 0) => (P o h).st 0 d c)
    = iprop((aLoc d ↦{fullShare} o.a) ∗ (kLoc d ↦{fullShare} o.k) ∗ (tLoc d ↦{fullShare} o.t) ∗ (oLoc d ↦{fullShare} o.o)) := by
  rw [a_rows, k_rows, table_shares, o_rows, ← bigSep_sep', ← bigSep_sep', ← bigSep_sep']
  exact all_tiles (given o d)
/-- what it ends with are the operands whole, the result at the call's result. -/
theorem dn_eq (d : Dev nD) : (bigSep Finset.univ fun c : Fin ((K (F := F)).nCore 0) => (P o h).dn 0 d c)
    = iprop((aLoc d ↦{fullShare} o.a) ∗ (kLoc d ↦{fullShare} o.k) ∗ (tLoc d ↦{fullShare} o.t) ∗ (oLoc d ↦{fullShare} o.res h)) := by
  rw [a_rows, k_rows, table_shares, o_rows, ← bigSep_sep', ← bigSep_sep', ← bigSep_sep']
  exact all_tiles (back o h d)

end Cert.Poi

end
-- ==== Proof.Nms.lean ====
/-
  The suppression call of the program, the TensorCore pipeline over the 24 planes of scores: its body run on the two
  staging buffers, the proof data of the pipeline from a valuation of the buffers, and the call as a region of the
  TensorCore's thread, owing the SparseCore call's starts throughout.
-/
module

public import proofs.«01_k».proof.Proof.Setup
public import Idealize.ShloMosaic.Lib.Pipeline.RegionsLoop
public import Idealize.ShloMosaic.Lib.Pipeline.FrameBody
public import Idealize.ShloMosaic.Lib.Pipeline.Value
public import Idealize.ShloMosaic.Lib.Pipeline.ValueKit.Basic

@[expose] public section

noncomputable section

namespace Cert.Poi

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

/-- The contents of a memref's buffer on device `d`'s TensorCore, and the buffer held whole at such contents. -/
abbrev CBuf (d : Dev nD) {sp : Space} {S : Shape} {e : EltTy} (M : Memref sig .tc sp S e) : Type := Buf (Elt F) (M.view.loc (d : Thread nD τ))
abbrev whole (d : Dev nD) {sp : Space} {S : Shape} {e : EltTy} (M : Memref sig .tc sp S e) (f : CBuf (F := F) d M) : sProp 𝕄 :=
  M.view.loc (d : Thread nD τ) ↦{fullShare} f

/-- A memref on a whole buffer, owned at contents it reads: the buffer held at some contents that read so. -/
theorem owns_staged (d : Dev nD) {sp : Space} {S : Shape} {e : EltTy} {M : Memref sig .tc sp S e} (h : M.IsWhole) (X : S.Idx → Elt F e) :
    (owns (d : Thread nD τ) M fullShare X : sProp 𝕄) = iprop(∃ f : CBuf d M, ⌜M.view.read (Elt F) f = X⌝ ∗ whole d M f) := by
  unfold owns; rw [h.set_eq_univ]

/-- From both staging buffers held, the body runs to its end, leaves the scores as they were and the other buffer
    reading the suppressed scores. -/
theorem nms_body (d : Dev nD) (i : grid0.Coords) (M0 : Memref sig .tc .vmem S1x1x192x640 .f32) (h0 : M0.IsWhole) (M1 : Memref sig .tc .vmem S1x1x192x640 .f32) (h1 : M1.IsWhole)
    (f0 : CBuf (F := F) d M0) (f1 : CBuf (F := F) d M1) (E : Set ℕ) (Q : PUnit → sProp 𝕄) :
    iprop(whole d M0 f0 ∗ whole d M1 f1
        ∗ ((∃ g : CBuf (F := F) d M1, ⌜M1.view.read (Elt F) g = k0_pay1 (M0.view.read (Elt F) f0)⌝ ∗ whole d M0 f0 ∗ whole d M1 g) -∗ Q ⟨⟩))
      ⊢ wp frame (wpE (defs₀ (F := F)) Variants.none d none) E (cc0__nms_body i M0 h0 M1 h1) Q := by
  rw [cc0__nms_body_eq_skeleton]
  unfold cc0__nms_body_skel
  iintro ⟨H0, H1, Hk⟩
  sl_exec!
  sl_step
  iapply Hk
  iexists _
  isplitr; swap
  · isplitl [H0]; · iexact H0
    iexact H1
  · ipureintro
    unfold nms_body.sl.H1_1
    rw [View.read_writes_junk_eq_canon, View.canon_cons_unit_lit _ _ _ (by decide)]
    exact congrArg k0_pay1 (View.ld_unit_lit _ (M0.view.read (Elt F) f0) (by decide))

/-! ## The proof data, from a valuation of the TensorCore's buffers -/

variable (V : (d : Dev nD) → (b : Ref sig .tc) → Buf (Elt F) ((d : Thread nD τ).loc b))

/-- The plane of scores the pipeline stages at a point. -/
abbrev plane (d : Dev nD) (t : Fin cfg0.N) : (cfg0.win 0).block.Idx → Elt F (cfg0.win 0).elt :=
  ((cfg0.win 0).blk t).view.read (Elt F) (V d main_arg0)

/-- The proof data: the two arrays at the valuation; after the body the plane as it was and its suppressed
    scores; the starts of the SparseCore call owed throughout, and no wait recorded above level zero. -/
def nmsDat (d : Dev nD) : Dat τ (Elt F) (HIx 1) ℕ UU ℕ cfg0 d where
  A w := V d (Pipeline.arrRef spec0 w)
  after w t := match w with
    | ⟨0, _⟩ => plane V d t
    | ⟨1, _⟩ => k0_pay1 (plane V d t)
  Φ _ := Pipeline.scopedRest (Ix := HIx 1) (Name := ℕ) (U := UU) (Lvl := ℕ) (Val := Elt F) spec0 d
  q _ := fullShare
  owed _ := (K (F := F)).Otc d 0
  recorded _ := {p | (K (F := F)).lev (T d, p.1) p.2 ≤ 0}

/-- The tables the pipeline prefetches: none. -/
abbrev adm : (p : Fin 1) → (pcfgs (F := F) p).Adm := fun p => (cfgs p).toPCfg_adm

/-- The proof data of each pipeline of the program: the one there is. -/
def nmsDats : (p : Fin 1) → (d : Dev nD) → Dat τ (Elt F) (HIx 1) ℕ UU ℕ (Pipeline.pin (pcfgs (F := F)) adm p) d
  | ⟨0, _⟩ => fun d => nmsDat V d

/-- The body finds the plane of its point staged. -/
theorem before_plane (d : Dev nD) (t : Fin cfg0.N) (x : (cfg0.win 0).block.Idx → Elt F (cfg0.win 0).elt) :
    (nmsDat V d).before 0 t x = plane V d t := by
  unfold Dat.before; rw [if_pos (fetch0_0 t)]; rfl

/-- The body meets the pipeline's obligation at every point. -/
theorem nms_obligation (d : Dev nD) : BodyObligation (nmsDat V d) (defs₀ (F := F)) 𝒱₀ none Set.univ := fun t => by
  rw [bigSep_W0, bigSep_W0]
  simp only [owns_staged d (launch0.stage_whole 0 _), owns_staged d (launch0.stage_whole 1 _)]
  rw [show (nmsDat V d).Φ t.castSucc = (nmsDat V d).Φ t.succ from rfl,
    show (nmsDat V d).owesAt none t.succ = (nmsDat V d).owesAt none t.castSucc from rfl]
  iintro ⟨HΦ, Howes, ⟨%d0, %f0, %hf0, H0⟩, ⟨%d1, %f1, -, H1⟩⟩
  rw [before_plane] at hf0
  iapply (nms_body d (grid0.coords t) (win0_0.stage (cfg0.slots t 0)) (hstage0_0 ((cfg0.slots t 0).cast nbuf0_0))
    (win0_1.stage (cfg0.slots t 1)) (hstage0_1 ((cfg0.slots t 1).cast nbuf0_1)) f0 f1 Set.univ _)
  isplitl [H0]; · iexact H0
  isplitl [H1]; · iexact H1
  iintro ⟨%g, %hg, H0, H1⟩
  isplitl [HΦ]; · iexact HΦ
  isplitl [Howes]; · iexact Howes
  isplitl [H0]; · iexists f0; isplitr; swap; (· iexact H0); ipureintro; exact hf0
  iexists g; isplitr; swap; (· iexact H1); ipureintro; exact hg.trans (congrArg k0_pay1 hf0)

/-! ## The call as a region of the TensorCore's thread -/

/-- The array of suppressed scores the call leaves. -/
def kept (d : Dev nD) : Buf (Elt F) ((d : Thread nD τ).loc main_v0) := (nmsDat V d).arrAt 1 cfg0.N

/-- What the TensorCore owes before the SparseCore call, with the waits it has recorded at level zero. -/
def owing (d : Dev nD) : sProp 𝕄 := iprop(∃ W, ⌜(K (F := F)).WBelow (T d) W 0⌝ ∗ owes (T d) ((K (F := F)).Otc d 0) W)

variable (Vp : (d : Dev nD) → (b : Ref sig .tc) → Buf (Elt F) ((d : Thread nD τ).loc b))

set_option backward.isDefEq.respectTransparency.types false in
/-- The suppression call over the TensorCore's unscoped buffers: entered at a valuation, left at one that has the
    kept scores in the call's result and is the same elsewhere, what is owed carried through. -/
def nmsRegion (hout : ∀ d, Vp d main_v0 = kept V d) (hne : ∀ d (b : Ref sig .tc), b ≠ main_v0 → Vp d b = V d b) :
    Pipeline.RegionSeg (pcfgs (F := F)) adm (nmsDats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (nms_obligation V d).loose
  hwaits d := Pipeline.cellsWaits_of_cut (Pipeline.pin (pcfgs (F := F)) adm) (nmsDats V) none 0 d 0 ((K (F := F)).Otc d 0) (fun _ => rfl)
    (fun _ _ => Finset.mem_univ _) (fun _ _ => le_refl 0)
    fun g i hg => ⟨Finset.mem_univ _, lt_of_lt_of_le (Nat.succ_pos _) ((K (F := F)).lev_of_Otc_pos hg)⟩
  pre d := iprop(unscopedBufs d (V d) ∗ owing d)
  post d := iprop(unscopedBufs d (Vp d) ∗ owing d)
  X _ := BI.emp
  Y _ := BI.emp
  Z d := Pipeline.unscopedRest (Ix := HIx 1) (Name := ℕ) (U := UU) (Lvl := ℕ) spec0 d (V d)
  hentry d := by
    rw [Pipeline.ownSems0_none]
    have hsplit := Pipeline.arrays_of_unscopedBufs (p := 0) (pcfgs (F := F)) adm (nmsDats V) launch0.win launch0.arr_whole d
      ((nmsDats V 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (nmsDats V 0 d).Φ 0 = Pipeline.scopedRest spec0 d from rfl]
    iintro ⟨-, -, Hr⟩; iexact Hr
  hout d := by
    rw [Pipeline.ownSems0_none, show (nmsDats V 0 d).Φ (Fin.last _) = Pipeline.scopedRest spec0 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch0.win launch0.arr_whole d
      (nmsDats V) ((nmsDats V 0 d).share_full fun _ => rfl) (V d) (Vp d) ((nmsDats V 0 d).arrAt · cfg0.N)
      (fun w => by
        fin_cases w
        · exact ((nmsDats V 0 d).arrAt_in 0 rfl _).trans (hne d main_arg0 (by decide)).symm
        · exact (hout d).symm)
      (fun b hb => hne d b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold owing Pipeline.Dat.owesAt Pipeline.owesWithin
    icases HO with ⟨%W, %hW, HO⟩; iexists W
    isplitr
    · ipureintro
      intro p hp
      rcases hW hp with h | ⟨w, s, rfl⟩
      · exact h
      · exact le_refl 0
    iexact HO

end Cert.Poi

end
-- ==== Proof.Host.lean ====
/-
  The host's part of the program: its operations as lists, the program as the suppression call, the first list, the
  SparseCore call and the last list, and the contents of the buffers between them.
-/
module

public import proofs.«01_k».proof.Proof.Nms
public import Idealize.ShloMosaic.Lib.StableHlo.RunRead
public import Idealize.ShloMosaic.Lib.Pipeline.Frame

@[expose] public section

noncomputable section

namespace Cert.Poi

open Cert.KernelIdeal Cert.KernelIdeal.Gen
open Idealize.ShloMosaic
open Idealize.ShloMosaic.TcCoe
open Idealize.ShloMosaic.StableHlo
open Idealize.SL Idealize.SL.RA Idealize.SL.BI Idealize.SL.Sem

variable {F : FTy → Type} [FloatOps F]

/-! ## The operations -/

/-- The operations of `remainder`, over its operands and one call's buffers. -/
def remOps (arg0 : TRef sig ⟨S8x100, .i32⟩) (arg1 : TRef sig ⟨S_, .i32⟩) (φ : fn_remainder.Bufs) : List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S8x100 ![] bcast_S_S8x100),
    TRef.binary arg0 φ.v3 φ.v4 Host.remsi,
    TRef.nullary φ.c_1 (constantI S_ 32 0#32),
    TRef.unary φ.c_1 φ.v5 (broadcastInDim S8x100 ![] bcast_S_S8x100),
    TRef.binary φ.v4 φ.v5 φ.v6 (cmpi .ne),
    TRef.nullary φ.c_2 (constantI S_ 32 0#32),
    TRef.unary φ.c_2 φ.v7 (broadcastInDim S8x100 ![] bcast_S_S8x100),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S8x100 ![] bcast_S_S8x100),
    TRef.binary φ.v8 φ.v10 φ.v11 (cmpi .ne),
    TRef.binary φ.v11 φ.v6 φ.v12 andi,
    TRef.unary φ.call0.v0 φ.v13 (broadcastInDim S8x100 ![] bcast_S_S8x100),
    TRef.binary φ.v4 φ.v13 φ.v14 addi,
    TRef.ternary φ.v12 φ.v14 φ.v4 φ.v15 select ]

/-- The operations of `floor_divide`, over its operands and one call's buffers. -/
def divOps (arg0 : TRef sig ⟨S8x100, .i32⟩) (arg1 : TRef sig ⟨S_, .i32⟩) (φ : fn_floor_divide.Bufs) : List (HloOp τ sig (Elt F)) :=
  [ TRef.unary arg1 φ.v0 id,
    TRef.unary φ.v0 φ.v1 (broadcastInDim S8x100 ![] bcast_S_S8x100),
    TRef.binary arg0 φ.v1 φ.v2 Host.divsi,
    TRef.unary arg0 φ.v3 signi,
    TRef.unary φ.v0 φ.v4 signi,
    TRef.unary φ.v4 φ.v5 (broadcastInDim S8x100 ![] bcast_S_S8x100),
    TRef.binary φ.v3 φ.v5 φ.v6 (cmpi .ne),
    TRef.unary φ.v0 φ.v7 (broadcastInDim S8x100 ![] bcast_S_S8x100),
    TRef.binary arg0 φ.v7 φ.v8 Host.remsi,
    TRef.nullary φ.c (constantI S_ 32 0#32),
    TRef.unary φ.c φ.v9 (broadcastInDim S8x100 ![] bcast_S_S8x100),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S8x100 ![] bcast_S_S8x100),
    TRef.binary φ.v2 φ.v12 φ.v13 subi,
    TRef.ternary φ.v11 φ.v13 φ.v2 φ.call0.v0 select ]

/-- The kept scores flattened, the hundred largest of each image and where they stand. -/
def topOps : List (HloOp τ sig (Elt F)) :=
  [ reshape main_v0 main_v1 (rfl : (.f32 : EltTy) = .f32) shapeCasts_S8x3x192x640_S8x368640,
    unary main_v1 main_values ((fun x => (Host.topK S8x100 1 (FloatOps.cmpfTotal .gt) x sliceFits_S8x368640_S8x100).1) : (⟨S8x368640, .f32⟩ : BufTy).Contents (Elt F) → (⟨S8x100, .f32⟩ : BufTy).Contents (Elt F)),
    unary main_v1 main_indices ((fun x => (Host.topK S8x100 1 (FloatOps.cmpfTotal .gt) x sliceFits_S8x368640_S8x100).2) : (⟨S8x368640, .f32⟩ : BufTy).Contents (Elt F) → (⟨S8x100, .i32⟩ : BufTy).Contents (Elt F)) ]

/-- The place of a peak in its plane: the index modulo the plane's size. -/
def placeOps : List (HloOp τ sig (Elt F)) :=
  nullary main_c (constantI S_ 32 122880#32) :: remOps (.of main_indices) (.of main_c) main_call0

/-- The peak's row, an integer and a float. -/
def rowOps : List (HloOp τ sig (Elt F)) :=
  nullary main_c_0 (constantI S_ 32 640#32) :: (divOps (.of main_v2) (.of main_c_0) main_call1 ++ [unary main_v3 main_v4 (sitofp .f32 : (⟨S8x100, .i32⟩ : BufTy).Contents (Elt F) → (⟨S8x100, .f32⟩ : BufTy).Contents (Elt F))])

/-- The peak's column, an integer and a float. -/
def colOps : List (HloOp τ sig (Elt F)) :=
  nullary main_c_1 (constantI S_ 32 640#32) :: (remOps (.of main_v2) (.of main_c_1) main_call2 ++ [unary main_v5 main_v6 (sitofp .f32 : (⟨S8x100, .i32⟩ : BufTy).Contents (Elt F) → (⟨S8x100, .f32⟩ : BufTy).Contents (Elt F))])

/-- The scores in one row and the mask of those at the threshold or above. -/
def maskOps : List (HloOp τ sig (Elt F)) :=
  [ reshape main_values main_v7 (rfl : (.f32 : EltTy) = .f32) shapeCasts_S8x100_S800,
    nullary main_cst (constant S_ .f32 0x3E800000#32),
    unary main_cst main_v8 (broadcastInDim S800 ![] bcast_S_S800 : (⟨S_, .f32⟩ : BufTy).Contents (Elt F) → (⟨S800, .f32⟩ : BufTy).Contents (Elt F)),
    binary main_v7 main_v8 main_v9 (cmpf .oge : (⟨S800, .f32⟩ : BufTy).Contents (Elt F) → (⟨S800, .f32⟩ : BufTy).Contents (Elt F) → (⟨S800, .i1⟩ : BufTy).Contents (Elt F)),
    unary main_v9 main_v10 (uitofp .f32 : (⟨S800, .i1⟩ : BufTy).Contents (Elt F) → (⟨S800, .f32⟩ : BufTy).Contents (Elt F)) ]

/-- The addresses of the words to gather, a row for each tile, padded with zeros. -/
def addrOps : List (HloOp τ sig (Elt F)) :=
  [ unary main_v2 main_v11 (broadcastInDim S8x100x1 ![0, 1] bcast_S8x100_S8x100x1_0_1 : (⟨S8x100, .i32⟩ : BufTy).Contents (Elt F) → (⟨S8x100x1, .i32⟩ : BufTy).Contents (Elt F)),
    nullary main_v12 (iotaInDim S50 32 0),
    nullary main_c_2 (constantI S_ 32 122880#32),
    unary main_c_2 main_v13 (broadcastInDim S50 ![] bcast_S_S50 : (⟨S_, .i32⟩ : BufTy).Contents (Elt F) → (⟨S50, .i32⟩ : BufTy).Contents (Elt F)),
    binary main_v12 main_v13 main_v14 (muli : (⟨S50, .i32⟩ : BufTy).Contents (Elt F) → (⟨S50, .i32⟩ : BufTy).Contents (Elt F) → (⟨S50, .i32⟩ : BufTy).Contents (Elt F)),
    unary main_v14 main_v15 (broadcastInDim S1x1x50 ![2] bcast_S50_S1x1x50_2 : (⟨S50, .i32⟩ : BufTy).Contents (Elt F) → (⟨S1x1x50, .i32⟩ : BufTy).Contents (Elt F)),
    unary main_v11 main_v16 (broadcastInDim S8x100x50 ![0, 1, 2] bcast_S8x100x1_S8x100x50_0_1_2 : (⟨S8x100x1, .i32⟩ : BufTy).Contents (Elt F) → (⟨S8x100x50, .i32⟩ : BufTy).Contents (Elt F)),
    unary main_v15 main_v17 (broadcastInDim S8x100x50 ![0, 1, 2] bcast_S1x1x50_S8x100x50_0_1_2 : (⟨S1x1x50, .i32⟩ : BufTy).Contents (Elt F) → (⟨S8x100x50, .i32⟩ : BufTy).Contents (Elt F)),
    binary main_v16 main_v17 main_v18 (addi : (⟨S8x100x50, .i32⟩ : BufTy).Contents (Elt F) → (⟨S8x100x50, .i32⟩ : BufTy).Contents (Elt F) → (⟨S8x100x50, .i32⟩ : BufTy).Contents (Elt F)),
    nullary main_v19 (iotaInDim S8 32 0),
    nullary main_c_3 (constantI S_ 32 6144000#32),
    unary main_c_3 main_v20 (broadcastInDim S8 ![] bcast_S_S8 : (⟨S_, .i32⟩ : BufTy).Contents (Elt F) → (⟨S8, .i32⟩ : BufTy).Contents (Elt F)),
    binary main_v19 main_v20 main_v21 (muli : (⟨S8, .i32⟩ : BufTy).Contents (Elt F) → (⟨S8, .i32⟩ : BufTy).Contents (Elt F) → (⟨S8, .i32⟩ : BufTy).Contents (Elt F)),
    unary main_v21 main_v22 (broadcastInDim S8x1x1 ![0] bcast_S8_S8x1x1_0 : (⟨S8, .i32⟩ : BufTy).Contents (Elt F) → (⟨S8x1x1, .i32⟩ : BufTy).Contents (Elt F)),
    unary main_v22 main_v23 (broadcastInDim S8x100x50 ![0, 1, 2] bcast_S8x1x1_S8x100x50_0_1_2 : (⟨S8x1x1, .i32⟩ : BufTy).Contents (Elt F) → (⟨S8x100x50, .i32⟩ : BufTy).Contents (Elt F)),
    binary main_v18 main_v23 main_v24 (addi : (⟨S8x100x50, .i32⟩ : BufTy).Contents (Elt F) → (⟨S8x100x50, .i32⟩ : BufTy).Contents (Elt F) → (⟨S8x100x50, .i32⟩ : BufTy).Contents (Elt F)),
    reshape main_v24 main_v25 (rfl : (.i32 : EltTy) = .i32) shapeCasts_S8x100x50_S32x1250,
    nullary main_c_4 (constantI S_ 32 0#32),
    unary main_c_4 main_v26 (broadcastInDim S32x30 ![] bcast_S_S32x30 : (⟨S_, .i32⟩ : BufTy).Contents (Elt F) → (⟨S32x30, .i32⟩ : BufTy).Contents (Elt F)),
    binary main_v25 main_v26 main_v27 ((fun a b => concatenate S32x1280 1 [⟨S32x1250, a⟩, ⟨S32x30, b⟩] concatenates_S32x1250_S32x30_S32x1280_d1) : (⟨S32x1250, .i32⟩ : BufTy).Contents (Elt F) → (⟨S32x30, .i32⟩ : BufTy).Contents (Elt F) → (⟨S32x1280, .i32⟩ : BufTy).Contents (Elt F)) ]

/-- The mask by gathered word, padded with zeros, and the table in one row. -/
def padOps : List (HloOp τ sig (Elt F)) :=
  [ reshape main_v10 main_v28 (rfl : (.f32 : EltTy) = .f32) shapeCasts_S800_S8x100x1,
    unary main_v28 main_v29 (broadcastInDim S8x100x50 ![0, 1, 2] bcast_S8x100x1_S8x100x50_0_1_2 : (⟨S8x100x1, .f32⟩ : BufTy).Contents (Elt F) → (⟨S8x100x50, .f32⟩ : BufTy).Contents (Elt F)),
    reshape main_v29 main_v30 (rfl : (.f32 : EltTy) = .f32) shapeCasts_S8x100x50_S32x1250,
    nullary main_cst_5 (constant S_ .f32 0x00000000#32),
    unary main_cst_5 main_v31 (broadcastInDim S32x30 ![] bcast_S_S32x30 : (⟨S_, .f32⟩ : BufTy).Contents (Elt F) → (⟨S32x30, .f32⟩ : BufTy).Contents (Elt F)),
    binary main_v30 main_v31 main_v32 ((fun a b => concatenate S32x1280 1 [⟨S32x1250, a⟩, ⟨S32x30, b⟩] concatenates_S32x1250_S32x30_S32x1280_d1) : (⟨S32x1250, .f32⟩ : BufTy).Contents (Elt F) → (⟨S32x30, .f32⟩ : BufTy).Contents (Elt F) → (⟨S32x1280, .f32⟩ : BufTy).Contents (Elt F)),
    reshape main_arg1 main_v33 (rfl : (.f32 : EltTy) = .f32) shapeCasts_S8x50x192x640_S49152000 ]

/-- After the SparseCore call: its rows cut and reshaped, the masked scores and places, and the result put together. -/
def endOps : List (HloOp τ sig (Elt F)) :=
  [ unary main_v34 main_v35 ((extractStridedSlice S32x1250 ![0, 0] · slices_S32x1280_S32x1250_0_0) : (⟨S32x1280, .f32⟩ : BufTy).Contents (Elt F) → (⟨S32x1250, .f32⟩ : BufTy).Contents (Elt F)),
    reshape main_v35 main_v36 (rfl : (.f32 : EltTy) = .f32) shapeCasts_S32x1250_S800x50,
    binary main_v7 main_v10 main_v37 (mulf : (⟨S800, .f32⟩ : BufTy).Contents (Elt F) → (⟨S800, .f32⟩ : BufTy).Contents (Elt F) → (⟨S800, .f32⟩ : BufTy).Contents (Elt F)),
    unary main_v37 main_v38 (broadcastInDim S800x1 ![0] bcast_S800_S800x1_0 : (⟨S800, .f32⟩ : BufTy).Contents (Elt F) → (⟨S800x1, .f32⟩ : BufTy).Contents (Elt F)),
    reshape main_v6 main_v39 (rfl : (.f32 : EltTy) = .f32) shapeCasts_S8x100_S800,
    reshape main_v4 main_v40 (rfl : (.f32 : EltTy) = .f32) shapeCasts_S8x100_S800,
    unary main_v39 main_v41 (broadcastInDim S800x1 ![0] bcast_S800_S800x1_0 : (⟨S800, .f32⟩ : BufTy).Contents (Elt F) → (⟨S800x1, .f32⟩ : BufTy).Contents (Elt F)),
    unary main_v40 main_v42 (broadcastInDim S800x1 ![0] bcast_S800_S800x1_0 : (⟨S800, .f32⟩ : BufTy).Contents (Elt F) → (⟨S800x1, .f32⟩ : BufTy).Contents (Elt F)),
    binary main_v41 main_v42 main_v43 ((fun a b => concatenate S800x2 1 [⟨S800x1, a⟩, ⟨S800x1, b⟩] concatenates_S800x1_S800x1_S800x2_d1) : (⟨S800x1, .f32⟩ : BufTy).Contents (Elt F) → (⟨S800x1, .f32⟩ : BufTy).Contents (Elt F) → (⟨S800x2, .f32⟩ : BufTy).Contents (Elt F)),
    unary main_v10 main_v44 (broadcastInDim S800x1 ![0] bcast_S800_S800x1_0 : (⟨S800, .f32⟩ : BufTy).Contents (Elt F) → (⟨S800x1, .f32⟩ : BufTy).Contents (Elt F)),
    unary main_v44 main_v45 (broadcastInDim S800x2 ![0, 1] bcast_S800x1_S800x2_0_1 : (⟨S800x1, .f32⟩ : BufTy).Contents (Elt F) → (⟨S800x2, .f32⟩ : BufTy).Contents (Elt F)),
    binary main_v43 main_v45 main_v46 (mulf : (⟨S800x2, .f32⟩ : BufTy).Contents (Elt F) → (⟨S800x2, .f32⟩ : BufTy).Contents (Elt F) → (⟨S800x2, .f32⟩ : BufTy).Contents (Elt F)),
    nary ![main_v38, main_v36, main_v46] main_v47 (fun u => (concatenate S800x53 1 [⟨S800x1, (u 0 : (⟨S800x1, .f32⟩ : BufTy).Contents (Elt F))⟩, ⟨S800x50, (u 1 : (⟨S800x50, .f32⟩ : BufTy).Contents (Elt F))⟩, ⟨S800x2, (u 2 : (⟨S800x2, .f32⟩ : BufTy).Contents (Elt F))⟩] concatenates_S800x1_S800x50_S800x2_S800x53_d1 : (⟨S800x53, .f32⟩ : BufTy).Contents (Elt F))) ]

/-- Everything between the suppression and the SparseCore call. -/
def preOps : List (HloOp τ sig (Elt F)) :=
  topOps ++ (placeOps ++ (rowOps ++ (colOps ++ (maskOps ++ (addrOps ++ padOps)))))

set_option maxRecDepth 16384 in
/-- The program is the suppression call, the first operations, the SparseCore call and the last operations. -/
theorem main_eq (d : Dev nD) :
    (main (F := F) d) = (Prog.lift (.customCall (SparseCore.inner (Pipeline.entry 0)) ()) >>= fun _ =>
      seq preOps >>= fun _ => sc.run d 0 >>= fun _ => seq endOps) := by
  rw [seq_bind_seqK]
  rfl

/-! ## What they touch and write -/

/-- Each of the first operations names the TensorCore's buffers only; -/
theorem preOps_bufs : (preOps : List (HloOp τ sig (Elt F))).Forall fun op => op.bufs ⊆ tcRefs τ sig := by
  simp only [preOps, topOps, placeOps, remOps, rowOps, divOps, colOps, maskOps, addrOps, padOps, List.cons_append, List.nil_append, List.append_assoc,
    List.forall_cons, List.Forall, TRef.unary, TRef.binary, TRef.nullary, TRef.ternary, unary_bufs_sub, binary_bufs_sub, nullary_bufs_sub, ternary_bufs_sub,
    reshape_bufs_sub, and_true]
/-- and so does each of the last. -/
theorem endOps_bufs : (endOps : List (HloOp τ sig (Elt F))).Forall fun op => op.bufs ⊆ tcRefs τ sig := by
  simp only [endOps, List.forall_cons, List.Forall, unary_bufs_sub, binary_bufs_sub, nary_bufs_sub, reshape_bufs_sub, and_true]

theorem preOps_sub : ∀ op ∈ (preOps : List (HloOp τ sig (Elt F))), op.bufs ⊆ Pipeline.ucRefs τ sig := fun op h =>
  Pipeline.sub_ucRefs op (List.forall_iff_forall_mem.mp preOps_bufs op h)
theorem endOps_sub : ∀ op ∈ (endOps : List (HloOp τ sig (Elt F))), op.bufs ⊆ Pipeline.ucRefs τ sig := fun op h =>
  Pipeline.sub_ucRefs op (List.forall_iff_forall_mem.mp endOps_bufs op h)

set_option maxRecDepth 16384 in
/-- None of them allocates. -/
theorem preOps_fresh : ∀ op ∈ (preOps : List (HloOp τ sig (Elt F))), op.fresh = ∅ :=
  List.forall_iff_forall_mem.mp (forall_fresh_of_map rfl)
set_option maxRecDepth 16384 in
theorem endOps_fresh : ∀ op ∈ (endOps : List (HloOp τ sig (Elt F))), op.fresh = ∅ :=
  List.forall_iff_forall_mem.mp (forall_fresh_of_map rfl)

end Cert.Poi

end
-- ==== Proof.Mul.lean ====
/-
  The tile's multiply: 80 steps, each on 16 lanes of the gathered words and of the mask, leave the words times the mask.
-/
module

public import proofs.«01_k».proof.Proof.Setup
public import Idealize.ShloMosaic.Lib.Pipeline.Value

@[expose] public section

noncomputable section

namespace Cert.Poi

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "rV" => (Memref.whole Cert.KernelIdeal.cc1_scratch1 : Memref Cert.KernelIdeal.sig Kind.scVector Space.vmem Cert.KernelIdeal.S1280 EltTy.f32)
local notation "mV" => (Memref.whole Cert.KernelIdeal.cc1_scratch2 : Memref Cert.KernelIdeal.sig Kind.scVector Space.vmem Cert.KernelIdeal.S1280 EltTy.f32)

abbrev cV (L : grid1.Coords) : Fin τ.nSC := (L 0).castLE hcore1
abbrev jV (L : grid1.Coords) : Fin τ.nSub := (L 1).castLE hsub1

theorem lane_inb (j : ℕ) (h : j < 80) : ∀ a, (![16 * j] : Fin 1 → ℕ) a + S16.size a ≤ S1280.size a := by
  intro a
  match a with
  | ⟨0, _⟩ => show 16 * j + 16 ≤ 1280; omega

/-- Lanes `16 j` to `16 j + 15`. -/
abbrev lanes (j : ℕ) (h : j < 80) : Rect S1280 := Rect.unit (s := S1280) ![16 * j] S16.size (lane_inb j h)

/-- Multiply step `j`: load 16 words, load 16 mask values, store their products. -/
def mulStep (arg7 arg8 : Memref sig .scVector .vmem S1280 .f32) (L : grid1.Coords) (j : ℕ) (h : j < 80) :
    Prog (TpuEff nD τ sig (Elt F) Λ₀ (.scVector (cV L) (jV L))) PUnit := do
  let v : Vec F S16 .f32 ← Prog.lift (.load arg7 (lanes j h).toLoadRect (View.loadsAt_vmem h_S16))
  let w : Vec F S16 .f32 ← Prog.lift (.load arg8 (lanes j h).toLoadRect (View.loadsAt_vmem h_S16))
  let _ : Vec F S16 .f32 ← Prog.lift (.load arg7 (lanes j h).toLoadRect (View.loadsAt_vmem h_S16))
  Prog.lift (.store arg7 (lanes j h) (k1_pay4 v w) Finset.univ (View.stores_vmem_bits_univ h_S16 rfl) (.inl rfl))

/-- `n` multiply steps from step `j` on. -/
def mulFrom (arg7 arg8 : Memref sig .scVector .vmem S1280 .f32) (L : grid1.Coords) : (n j : ℕ) → j + n ≤ 80 →
    Prog (TpuEff nD τ sig (Elt F) Λ₀ (.scVector (cV L) (jV L))) PUnit
  | 0, _, _ => pure ⟨⟩
  | n + 1, j, h => do
    mulStep arg7 arg8 L j (by omega)
    mulFrom arg7 arg8 L n (j + 1) (by omega)

/-- The words after `n` steps: the first `16 n` are multiplied by the mask. -/
def after16 (f g : S1280.Idx → Elt F .f32) (n : ℕ) : S1280.Idx → Elt F .f32 := fun x =>
  if (x 0).val < 16 * n then FloatOps.mulf (f x) (g x) else f x

variable (d : Dev nD) (L : grid1.Coords)

/-- Writing step `j`'s products over the words after `j` steps gives the words after `j + 1`. -/
theorem write_step (f g : S1280.Idx → Elt F .f32) (j : ℕ) (h : j < 80) :
    (rV).view.writes (Elt F) (after16 f g j)
      [⟨lanes j h, k1_pay4 ((rV).view.readAt (Elt F) (lanes j h).toLoadRect (after16 f g j)) ((mV).view.readAt (Elt F) (lanes j h).toLoadRect g)⟩]
      = after16 f g (j + 1) := by
  have hmem (x : S1280.Idx) : x ∈ (lanes j h).set ↔ 16 * j ≤ (x 0).val ∧ (x 0).val < 16 * j + 16 := by
    rw [Rect.mem_set_unit]
    exact ⟨fun hx => hx 0, fun hx a => match a with | ⟨0, _⟩ => hx⟩
  funext x
  by_cases hx : x ∈ (lanes j h).set
  · obtain ⟨hlo, hhi⟩ := (hmem x).mp hx
    obtain ⟨y, rfl⟩ := (lanes j h).exists_idx_of_mem hx
    have e := View.read_writes_cons_emb (Val := Elt F) (rV).view (after16 f g j) (lanes j h)
      (k1_pay4 ((rV).view.readAt (Elt F) (lanes j h).toLoadRect (after16 f g j)) ((mV).view.readAt (Elt F) (lanes j h).toLoadRect g)) [] y
    refine e.trans ?_
    unfold k1_pay4
    simp only [shapeCast_self, mulf]
    show FloatOps.mulf (after16 f g j ((lanes j h).emb y)) (g ((lanes j h).emb y)) = _
    unfold after16
    have hlo' : 16 * j ≤ ((lanes j h).emb y 0).val := hlo
    have hhi' : ((lanes j h).idx y 0).val < 16 * (j + 1) := by omega
    rw [if_neg (by omega), if_pos hhi']
    rfl
  · have e := View.read_writes_apply_of_forall_not_mem (Val := Elt F) (rV).view (after16 f g j) x
      [⟨lanes j h, k1_pay4 ((rV).view.readAt (Elt F) (lanes j h).toLoadRect (after16 f g j)) ((mV).view.readAt (Elt F) (lanes j h).toLoadRect g)⟩]
      (by intro p hp; rw [List.mem_singleton] at hp; subst hp; exact hx)
    refine e.trans ?_
    rw [hmem] at hx
    show after16 f g j x = after16 f g (j + 1) x
    unfold after16
    by_cases h1 : (x 0).val < 16 * j
    · rw [if_pos h1, if_pos (by omega)]
    · rw [if_neg h1, if_neg (by omega)]

theorem wp_mulStep (f g : S1280.Idx → Elt F .f32) {Q : PUnit → sProp 𝕄} (j : ℕ) (h : j < 80) :
    iprop(((rV).view.loc (V d (cV L) (jV L)) ↦{fullShare} after16 f g j) ∗ ((mV).view.loc (V d (cV L) (jV L)) ↦{fullShare} g)
        ∗ ((((rV).view.loc (V d (cV L) (jV L)) ↦{fullShare} after16 f g (j + 1)) ∗ ((mV).view.loc (V d (cV L) (jV L)) ↦{fullShare} g)) -∗ Q ⟨⟩))
      ⊢ wp frame (wpE (defs₀ (F := F)) 𝒱₀ (V d (cV L) (jV L)) none) Set.univ (mulStep rV mV L j h) Q := by
  unfold mulStep
  iintro ⟨Hr, Hm, HQ⟩
  sl_exec
  sl_step
  rw [write_step]
  iapply HQ
  isplitl [Hr]; · iexact Hr
  iexact Hm

/-- `n` multiply steps from step `j` take the words after `j` steps to those after `j + n`. -/
theorem wp_mulFrom (f g : S1280.Idx → Elt F .f32) {Q : PUnit → sProp 𝕄} :
    ∀ (n j : ℕ) (h : j + n ≤ 80),
    iprop(((rV).view.loc (V d (cV L) (jV L)) ↦{fullShare} after16 f g j) ∗ ((mV).view.loc (V d (cV L) (jV L)) ↦{fullShare} g)
        ∗ ((((rV).view.loc (V d (cV L) (jV L)) ↦{fullShare} after16 f g (j + n)) ∗ ((mV).view.loc (V d (cV L) (jV L)) ↦{fullShare} g)) -∗ Q ⟨⟩))
      ⊢ wp frame (wpE (defs₀ (F := F)) 𝒱₀ (V d (cV L) (jV L)) none) Set.univ (mulFrom rV mV L n j h) Q
  | 0, j, h => by
    unfold mulFrom
    iintro ⟨Hr, Hm, HQ⟩
    sl_step
    iapply HQ
    isplitl [Hr]; · iexact Hr
    iexact Hm
  | n + 1, j, h => by
    unfold mulFrom
    rw [wp_bind]
    iintro ⟨Hr, Hm, HQ⟩
    iapply (wp_mulStep d L f g j _) $$ [Hr Hm HQ]
    isplitl [Hr]; · iexact Hr
    isplitl [Hm]; · iexact Hm
    iintro ⟨Hr, Hm⟩
    iapply (wp_mulFrom f g n (j + 1) _) $$ [Hr Hm HQ]
    isplitl [Hr]; · iexact Hr
    isplitl [Hm]; · iexact Hm
    rw [show j + 1 + n = j + (n + 1) by omega]
    iexact HQ

/-- Before the first step nothing is multiplied; -/
theorem after16_zero (f g : S1280.Idx → Elt F .f32) : after16 f g 0 = f := by
  funext x; unfold after16; rw [if_neg]; omega
/-- after the last everything is. -/
theorem after16_last (f g : S1280.Idx → Elt F .f32) : after16 f g 80 = fun x => FloatOps.mulf (f x) (g x) := by
  funext x; unfold after16; rw [if_pos (show (x 0).val < 1280 from (x 0).isLt)]

/-! ## The kernel with its multiply as a chain -/

set_option maxRecDepth 100000 in
/-- The tile's program: fetch the addresses and the mask, gather, multiply, write out. -/
theorem kernel_eq (L : grid1.Coords) (arg2 : Memref sig .scVector .hbm S49152000 .f32) (harg2 : arg2.IsWhole) (arg3 : Memref sig .scVector .hbm S32x1280 .i32) (harg3 : arg3.IsWhole) (arg4 : Memref sig .scVector .hbm S32x1280 .f32) (harg4 : arg4.IsWhole) (arg5 : Memref sig .scVector .hbm S32x1280 .f32) (harg5 : arg5.IsWhole) (arg6 : Memref sig .scVector .vmem S1280 .i32) (harg6 : arg6.IsWhole) (arg7 : Memref sig .scVector .vmem S1280 .f32) (harg7 : arg7.IsWhole) (arg8 : Memref sig .scVector .vmem S1280 .f32) (harg8 : arg8.IsWhole) (arg9 r0 r1 r2 : DmaSems sig S_) :
    cc1_gather_k (F := F) L arg2 harg2 arg3 harg3 arg4 harg4 arg5 harg5 arg6 harg6 arg7 harg7 arg8 harg8 arg9 r0 r1 r2 = (do
      let a : Memref sig .scVector .hbm S1280 .i32 := (arg3.slice (Rect.unit (s := S32x1280) (k1_off1 L) S1x1280.size (k1_off1_inb L)) (fun _ => rfl)).squeeze S1280 squeezes_S1x1280_S1280
      let k : Memref sig .scVector .hbm S1280 .f32 := (arg4.slice (Rect.unit (s := S32x1280) (k1_off1 L) S1x1280.size (k1_off1_inb L)) (fun _ => rfl)).squeeze S1280 squeezes_S1x1280_S1280
      let o : Memref sig .scVector .hbm S1280 .f32 := (arg5.slice (Rect.unit (s := S32x1280) (k1_off1 L) S1x1280.size (k1_off1_inb L)) (fun _ => rfl)).squeeze S1280 squeezes_S1x1280_S1280
      let t : Memref sig .scVector .hbm S49152000 .f32 := arg2.slice (Rect.unit (s := S49152000) ![0] S49152000.size inb_S49152000_S49152000_0) (fun _ => rfl)
      Prog.lift (.enqueueDma a (.here arg6) (.dma r0.sem) ((View.wordExact_bits rfl).reshape _ _) harg6.wordExact ⟨Or.inl rfl, trivial⟩)
      Prog.lift (.waitDma2 r0.sem a arg6 ((View.wordExact_bits rfl).reshape _ _) harg6.wordExact)
      Prog.lift (.enqueueDma k (.here arg8) (.dma r1.sem) ((View.wordExact_bits rfl).reshape _ _) harg8.wordExact ⟨Or.inl rfl, trivial⟩)
      Prog.lift (.waitDma2 r1.sem k arg8 ((View.wordExact_bits rfl).reshape _ _) harg8.wordExact)
      SparseCore.enqueueIndirectGather rfl t arg7 gathers_S49152000_S1280 arg6 rfl arg9.sem (View.wordExact_bits rfl) rfl (Or.inl rfl)
      SparseCore.waitIndirectGather arg9.sem t arg7 (View.wordExact_bits rfl) harg7.wordExact
      mulFrom arg7 arg8 L 80 0 (by omega)
      Prog.lift (.enqueueDma arg7 (.here o) (.dma r2.sem) harg7.wordExact ((View.wordExact_bits rfl).reshape _ _) ⟨Or.inl rfl, trivial⟩)
      Prog.lift (.waitDma2 r2.sem arg7 o harg7.wordExact ((View.wordExact_bits rfl).reshape _ _))) := rfl

end Cert.Poi

end
-- ==== Proof.Row.lean ====
/-
  One tile's rows, its semaphores and scratch, what its gather delivers and what its row of the result then holds.
-/
module

public import proofs.«01_k».proof.Proof.Mul

@[expose] public section

noncomputable section

namespace Cert.Poi

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v33_scv : Memref Cert.KernelIdeal.sig Kind.scVector Space.hbm Cert.KernelIdeal.S49152000 EltTy.f32)
local notation "aV" => (Memref.whole Cert.KernelIdeal.main_v27_scv : Memref Cert.KernelIdeal.sig Kind.scVector Space.hbm Cert.KernelIdeal.S32x1280 EltTy.i32)
local notation "kV" => (Memref.whole Cert.KernelIdeal.main_v32_scv : Memref Cert.KernelIdeal.sig Kind.scVector Space.hbm Cert.KernelIdeal.S32x1280 EltTy.f32)
local notation "oV" => (Memref.whole Cert.KernelIdeal.main_v34_scv : Memref Cert.KernelIdeal.sig Kind.scVector Space.hbm Cert.KernelIdeal.S32x1280 EltTy.f32)
local notation "sV" => (Memref.whole Cert.KernelIdeal.cc1_scratch0 : Memref Cert.KernelIdeal.sig Kind.scVector Space.vmem Cert.KernelIdeal.S1280 EltTy.i32)
local notation "rV" => (Memref.whole Cert.KernelIdeal.cc1_scratch1 : Memref Cert.KernelIdeal.sig Kind.scVector Space.vmem Cert.KernelIdeal.S1280 EltTy.f32)
local notation "mV" => (Memref.whole Cert.KernelIdeal.cc1_scratch2 : Memref Cert.KernelIdeal.sig Kind.scVector Space.vmem Cert.KernelIdeal.S1280 EltTy.f32)

variable (d : Dev nD) (L : grid1.Coords)

theorem bound_zero : grid1.bound 0 = 2 := rfl
theorem bound_one : grid1.bound 1 = 16 := rfl
/-- The tile's pair: its core and its subcore. -/
abbrev tp (L : grid1.Coords) : Fin 2 × Fin 16 := (Fin.cast bound_zero (L 0), Fin.cast bound_one (L 1))

/-! ## The tile's row, as the kernel addresses it -/

abbrev rowK (L : grid1.Coords) : Rect S32x1280 := Rect.unit (s := S32x1280) (k1_off1 L) S1x1280.size (k1_off1_inb L)
abbrev aRow (L : grid1.Coords) : Memref sig .scVector .hbm S1280 .i32 := ((aV).slice (rowK L) (fun _ => rfl)).squeeze S1280 squeezes_S1x1280_S1280
abbrev kRow (L : grid1.Coords) : Memref sig .scVector .hbm S1280 .f32 := ((kV).slice (rowK L) (fun _ => rfl)).squeeze S1280 squeezes_S1x1280_S1280
abbrev oRow (L : grid1.Coords) : Memref sig .scVector .hbm S1280 .f32 := ((oV).slice (rowK L) (fun _ => rfl)).squeeze S1280 squeezes_S1x1280_S1280
abbrev tAll : Memref sig .scVector .hbm S49152000 .f32 := (tV).slice (Rect.unit (s := S49152000) ![0] S49152000.size inb_S49152000_S49152000_0) (fun _ => rfl)

theorem rowK_eq : rowK L = row (wid (tp L)) := by
  unfold rowK row Rect.part Rect.block
  congr 1 <;> funext a
  · rw [k1_off1_eq]
    match a with
    | 0 =>
      simp [Shape.partIx, Shape.partSize, wid]
      show 2 * (L 1).val + (L 0).val = (L 1).val * 2 + (L 0).val
      omega
    | 1 => simp [Shape.partIx, Shape.partSize]
  · match a with
    | 0 => simp [Shape.partSize]
    | 1 => simp [Shape.partSize]

theorem set_aRow : (aRow L).view.set = rowSet (tp L) := by
  show (((aV).view.slice (rowK L)).reshape S1280 squeezes_S1x1280_S1280.numel_eq).set = _
  rw [View.set_reshape, View.set_slice]; exact Finset.map_refl.trans (congrArg (fun r : Rect S32x1280 => r.set) (rowK_eq L))
theorem set_kRow : (kRow L).view.set = rowSet (tp L) := by
  show (((kV).view.slice (rowK L)).reshape S1280 squeezes_S1x1280_S1280.numel_eq).set = _
  rw [View.set_reshape, View.set_slice]; exact Finset.map_refl.trans (congrArg (fun r : Rect S32x1280 => r.set) (rowK_eq L))
theorem set_oRow : (oRow L).view.set = rowSet (tp L) := by
  show (((oV).view.slice (rowK L)).reshape S1280 squeezes_S1x1280_S1280.numel_eq).set = _
  rw [View.set_reshape, View.set_slice]; exact Finset.map_refl.trans (congrArg (fun r : Rect S32x1280 => r.set) (rowK_eq L))

theorem pts_aRow (f : Buf (Elt F) (aLoc d)) :
    ((aRow L).view.loc (V d (cV L) (jV L)) ↦[(aRow L).view.set]{fullShare} f : sProp 𝕄) = aLoc d ↦[rowSet (tp L)]{fullShare} f := by
  rw [set_aRow]
theorem pts_kRow (f : Buf (Elt F) (kLoc d)) :
    ((kRow L).view.loc (V d (cV L) (jV L)) ↦[(kRow L).view.set]{fullShare} f : sProp 𝕄) = kLoc d ↦[rowSet (tp L)]{fullShare} f := by
  rw [set_kRow]
theorem pts_oRow (f : Buf (Elt F) (oLoc d)) :
    ((oRow L).view.loc (V d (cV L) (jV L)) ↦[(oRow L).view.set]{fullShare} f : sProp 𝕄) = oLoc d ↦[rowSet (tp L)]{fullShare} f := by
  rw [set_oRow]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl
theorem pts_mV (f : Buf (Elt F) ((V d (cV L) (jV L)).loc cc1_scratch2)) :
    ((mV).view.loc (V d (cV L) (jV L)) ↦{fullShare} f : sProp 𝕄) = (V d (cV L) (jV L)).loc cc1_scratch2 ↦{fullShare} f := rfl

/-! ## The tile's own semaphores and scratch -/

abbrev gCell (d : Dev nD) (c : Fin τ.nSC) (i : Fin τ.nSub) : GSem nD τ sig := (V d c i, .dma cc1_scratch3.sem)
abbrev aCell (d : Dev nD) (c : Fin τ.nSC) (i : Fin τ.nSub) : GSem nD τ sig := (V d c i, .dma cc1_scoped0.sem)
abbrev kCell (d : Dev nD) (c : Fin τ.nSC) (i : Fin τ.nSub) : GSem nD τ sig := (V d c i, .dma cc1_scoped1.sem)
abbrev oCell (d : Dev nD) (c : Fin τ.nSC) (i : Fin τ.nSub) : GSem nD τ sig := (V d c i, .dma cc1_scoped2.sem)

theorem ownSems0_V (c : Fin τ.nSC) (i : Fin τ.nSub) :
    (ownSems0 (V d c i) : sProp 𝕄)
      = iprop(semVal (gCell d c i) 0 ∗ semVal (aCell d c i) 0 ∗ semVal (kCell d c i) 0 ∗ semVal (oCell d c i) 0
          ∗ bigSep (((((ownCells (V d c i)).erase (gCell d c i)).erase (aCell d c i)).erase (kCell d c i)).erase (oCell d c i)) fun g => semVal g 0) := by
  have hg : gCell d c i ∈ ownCells (V d c i) := (mem_ownCells (g := gCell d c i)).mpr ⟨rfl, by
    show (SemLoc.dma cc1_scratch3.sem : SemLoc sig).isScoped .scVector = true; decide⟩
  have ha : aCell d c i ∈ ownCells (V d c i) := (mem_ownCells (g := aCell d c i)).mpr ⟨rfl, by
    show (SemLoc.dma cc1_scoped0.sem : SemLoc sig).isScoped .scVector = true; decide⟩
  have hk : kCell d c i ∈ ownCells (V d c i) := (mem_ownCells (g := kCell d c i)).mpr ⟨rfl, by
    show (SemLoc.dma cc1_scoped1.sem : SemLoc sig).isScoped .scVector = true; decide⟩
  have ho : oCell d c i ∈ ownCells (V d c i) := (mem_ownCells (g := oCell d c i)).mpr ⟨rfl, by
    show (SemLoc.dma cc1_scoped2.sem : SemLoc sig).isScoped .scVector = true; decide⟩
  have n1 : aCell d c i ≠ gCell d c i := by simp [aCell, gCell]; decide
  have n2 : kCell d c i ≠ gCell d c i := by simp [kCell, gCell]; decide
  have n3 : oCell d c i ≠ gCell d c i := by simp [oCell, gCell]; decide
  have n4 : kCell d c i ≠ aCell d c i := by simp [kCell, aCell]; decide
  have n5 : oCell d c i ≠ aCell d c i := by simp [oCell, aCell]; decide
  have n6 : oCell d c i ≠ kCell d c i := by simp [oCell, kCell]; decide
  unfold SparseCore.Cfg.ownSems0
  rw [SparseCore.bigSep_erase' hg, SparseCore.bigSep_erase' (Finset.mem_erase.mpr ⟨n1, ha⟩),
    SparseCore.bigSep_erase' (Finset.mem_erase.mpr ⟨n4, Finset.mem_erase.mpr ⟨n2, hk⟩⟩),
    SparseCore.bigSep_erase' (Finset.mem_erase.mpr ⟨n6, Finset.mem_erase.mpr ⟨n5, Finset.mem_erase.mpr ⟨n3, ho⟩⟩⟩)]

abbrev sRef (c : Fin τ.nSC) (i : Fin τ.nSub) : DevRef τ sig := (Proc.scVector c i).devRef cc1_scratch0
abbrev rRef (c : Fin τ.nSC) (i : Fin τ.nSub) : DevRef τ sig := (Proc.scVector c i).devRef cc1_scratch1
abbrev mRef (c : Fin τ.nSC) (i : Fin τ.nSub) : DevRef τ sig := (Proc.scVector c i).devRef cc1_scratch2

/-- The three scratch buffers are among the subcore's own: they are them, at some contents, and the rest. -/
theorem ownBufs_V (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase (sRef c i)).erase (rRef c i)).erase (mRef c i))
              fun b => iprop(∃ f, ((d, b) : Loc nD τ sig) ↦{fullShare} f)) := by
  have n1 : rRef c i ≠ sRef c i := fun e => absurd (Proc.devRef_injective _ e) (show (cc1_scratch1 : Ref sig .scVector) ≠ cc1_scratch0 by decide)
  have n2 : mRef c i ≠ sRef c i := fun e => absurd (Proc.devRef_injective _ e) (show (cc1_scratch2 : Ref sig .scVector) ≠ cc1_scratch0 by decide)
  have n3 : mRef c i ≠ rRef c i := fun e => absurd (Proc.devRef_injective _ e) (show (cc1_scratch2 : Ref sig .scVector) ≠ cc1_scratch1 by decide)
  unfold SparseCore.Cfg.ownBufs
  refine (SparseCore.bigSep_erase' (SparseCore.Cfg.mem_ownRefs_of_owner (p := Proc.scVector c i) (b := sRef c i) rfl)).trans ?_
  rw [SparseCore.bigSep_erase' (Finset.mem_erase.mpr ⟨n1, SparseCore.Cfg.mem_ownRefs_of_owner (p := Proc.scVector c i) (b := rRef c i) rfl⟩),
    SparseCore.bigSep_erase' (Finset.mem_erase.mpr ⟨n3, Finset.mem_erase.mpr ⟨n2, SparseCore.Cfg.mem_ownRefs_of_owner (p := Proc.scVector c i) (b := mRef c i) rfl⟩⟩)]

/-! ## What is gathered and what is written -/

variable [FloatOps F] (o : Ops F) (h : o.InRange)

/-- The addresses of the tile's row, its mask values, and the words its addresses name. -/
abbrev addrs : S1280.Idx → Elt F .i32 := (aRow L).view.read (Elt F) o.a
abbrev masks : S1280.Idx → Elt F .f32 := (kRow L).view.read (Elt F) o.k
def words : S1280.Idx → Elt F .f32 := fun y => word o.t (addrs L o y).toNat (h _)

include h in
/-- The offsets the gather reads are in range. -/
theorem addrs_inb (x : S1280.Idx) : ((sV).view.read (Elt F) (addrs L o) x).toNat < S49152000.size gathers_S49152000_S1280.axis := h _

omit [FloatOps F] in
/-- A tile's share of the table: the part the gather reads and the rest. -/
theorem table_split :
    ((tV).view.loc (V d (cV L) (jV L)) ↦{tq (tp L)} o.t : sProp 𝕄)
      ⊣⊢ iprop(((tAll).view.loc (V d (cV L) (jV L)) ↦[(tAll).view.set]{tq (tp L)} o.t)
          ∗ (tV).view.loc (V d (cV L) (jV L)) ↦[Finset.univ \ (tAll).view.set]{tq (tp L)} o.t) :=
  pointsTo_split_subset (Finset.subset_univ _)

/-- A program's run continued by another's: its postcondition is the other's run. -/
theorem wp_then {A : sProp 𝕄} {p : Prog (TpuEff nD τ sig (Elt F) Λ₀ (Proc.scVector (cV L) (jV L))) PUnit}
    {k : PUnit → Prog (TpuEff nD τ sig (Elt F) Λ₀ (Proc.scVector (cV L) (jV L))) PUnit} {Q : PUnit → sProp 𝕄}
    (hp : A ⊢ wp frame (wpE (defs₀ (F := F)) 𝒱₀ (V d (cV L) (jV L)) none) Set.univ p
      fun x => wp frame (wpE (defs₀ (F := F)) 𝒱₀ (V d (cV L) (jV L)) none) Set.univ (k x) Q) :
    A ⊢ wp frame (wpE (defs₀ (F := F)) 𝒱₀ (V d (cV L) (jV L)) none) Set.univ (p >>= k) Q := by
  rw [wp_bind]; exact hp

/-- The gather delivers the words the addresses name. -/
theorem gather_eq (fr : S1280.Idx → Elt F .f32) (hn : S1280.numel = S1280.size gathers_S49152000_S1280.axis') (hin) :
    (rV).view.write (Elt F) fr (SparseCore.gatherPayload gathers_S49152000_S1280 ((tAll).view.read (Elt F) o.t)
      (SparseCore.rows ((sV).view.read (Elt F) (addrs L o)) hn hin)) Finset.univ = words L o h := by
  refine (View.write_whole_univ _ _ _).trans (funext fun x => ?_)
  unfold SparseCore.gatherPayload words word
  refine congrArg o.t (funext fun a => Fin.ext ?_)
  match a with
  | 0 =>
    show 0 + 1 * (gathers_S49152000_S1280.idx (SparseCore.rows (addrs L o) hn hin) x gathers_S49152000_S1280.axis).val = (addrs L o x).toNat
    rw [Shape.Gathers.idx_axis, Nat.zero_add, Nat.one_mul]
    show (addrs L o (S1280.rowMajor.symm _)).toNat = _
    refine congrArg (fun y => (addrs L o y).toNat) ((Equiv.symm_apply_eq _).mpr (Fin.ext ?_))
    rw [Shape.rowMajor_val_one]
    rfl

/-- What the tile writes out is, on its row, the call's result. -/
theorem out_eq (x : S32x1280.Idx) (hx : x ∈ rowSet (tp L)) :
    (oRow L).view.writes (Elt F) o.o [⟨Rect.whole S1280, (rV).view.read (Elt F) fun y => FloatOps.mulf (words L o h y) (masks L o y)⟩] x
      = o.res h x := by
  rw [← set_oRow] at hx
  obtain ⟨y, -, rfl⟩ := Finset.mem_map.mp hx
  refine (congrFun (View.write_univ_eq_writes_whole (oRow L).view o.o [] _) _).symm.trans ?_
  refine (View.write_emb_of_mem _ _ (Finset.mem_univ y)).trans ?_
  rfl

end Cert.Poi

end
-- ==== Proof.Tile.lean ====
/-
  One tile's task, run once at a symbolic tile: it fetches its row of the addresses and of the mask, gathers the words
  of the table the addresses name, multiplies them by the mask and writes them out as its row of the result.
-/
module

public import proofs.«01_k».proof.Proof.Row

@[expose] public section

noncomputable section

namespace Cert.Poi

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v33_scv : Memref Cert.KernelIdeal.sig Kind.scVector Space.hbm Cert.KernelIdeal.S49152000 EltTy.f32)
local notation "aV" => (Memref.whole Cert.KernelIdeal.main_v27_scv : Memref Cert.KernelIdeal.sig Kind.scVector Space.hbm Cert.KernelIdeal.S32x1280 EltTy.i32)
local notation "kV" => (Memref.whole Cert.KernelIdeal.main_v32_scv : Memref Cert.KernelIdeal.sig Kind.scVector Space.hbm Cert.KernelIdeal.S32x1280 EltTy.f32)
local notation "oV" => (Memref.whole Cert.KernelIdeal.main_v34_scv : Memref Cert.KernelIdeal.sig Kind.scVector Space.hbm Cert.KernelIdeal.S32x1280 EltTy.f32)
local notation "sV" => (Memref.whole Cert.KernelIdeal.cc1_scratch0 : Memref Cert.KernelIdeal.sig Kind.scVector Space.vmem Cert.KernelIdeal.S1280 EltTy.i32)
local notation "rV" => (Memref.whole Cert.KernelIdeal.cc1_scratch1 : Memref Cert.KernelIdeal.sig Kind.scVector Space.vmem Cert.KernelIdeal.S1280 EltTy.f32)
local notation "mV" => (Memref.whole Cert.KernelIdeal.cc1_scratch2 : Memref Cert.KernelIdeal.sig Kind.scVector Space.vmem Cert.KernelIdeal.S1280 EltTy.f32)

variable (d : Dev nD) (L : grid1.Coords)

variable [FloatOps F] (o : Ops F) (h : o.InRange)

set_option maxHeartbeats 600000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ given o d (tp L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_k L tV (Memref.isWhole_whole _) aV (Memref.isWhole_whole _) kV (Memref.isWhole_whole _) oV (Memref.isWhole_whole _)
            sV (Memref.isWhole_whole _) rV (Memref.isWhole_whole _) mV (Memref.isWhole_whole _) cc1_scratch3 cc1_scoped0 cc1_scoped1 cc1_scoped2)
          fun _ => iprop(back o h d (tp L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hmul := fun Q => wp_mulFrom (F := F) d L (words L o h) (masks L o) (Q := Q) 80 0 (by omega)
  rw [after16_zero] at hmul
  have hlast : after16 (words L o h) (masks L o) (0 + 80) = _ := after16_last _ _
  simp only [hlast] at hmul
  rw [kernel_eq]
  generalize mulFrom (F := F) rV mV L 80 0 (by omega) = M at hmul ⊢
  rw [(K (F := F)).scopedBufs_V hF d (cV L) (jV L), SparseCore.Cfg.scopedSems0_V (Val := Elt F) d (cV L) (jV L), ownSems0_V, ownBufs_V]
  iintro ⟨#Hlv, -, ⟨Ha, Hk, Ht, Ho⟩, ⟨⟨%fs, Hs⟩, ⟨%fr, Hr⟩, ⟨%fm, Hm⟩, Hbufs⟩, ⟨HsemG, HsemA, HsemK, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (pts_aRow (F := F) d L _).symm) $$ Ha
  ihave Hk' := (Entails.of_eq (pts_kRow (F := F) d L _).symm) $$ Hk
  ihave Ho' := (Entails.of_eq (pts_oRow (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  ihave Hm' := (Entails.of_eq (pts_mV (F := F) d L _).symm) $$ Hm
  sl_exec
  -- the gather: a share of the table, the words' buffer and the fetched addresses go in, a transfer in flight comes out
  ihave Hts := (table_split d L o).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 L o) Finset.univ : sProp 𝕄)
      = (sV).view.loc (V d (cV L) (jV L)) ↦[(sV).view.set]{fullShare} addrs L o
      by rw [hss]; exact congrArg _ (View.write_whole_univ _ _ _))) $$ Hs'
  have hN : ∀ h : S49152000.Gathers 0 S1280, ∑ j, ((rV).slice (S1280.rowRect h.axis' j) (S1280.stride_rowRect h.axis' j)).view.dmaCredit
      = (rV).view.dmaCredit := by decide +kernel
  iapply (SparseCore.wp_indirectGatherLocal countersEmb 𝒱₀ (V d (cV L) (jV L)) none (hg := gathers_S49152000_S1280) (default : HIx 1)
      (rV).view.dmaCredit (hN _) (by decide) (addrs_inb L o h)) $$ [Hts Hr'' Hs'' HsemG]
  · isplitl [Hts]; · iexact Hts
    isplitl [Hr'']; · iexact Hr''
    isplitl [Hs'']; · iexact Hs''
    iexact HsemG
  iintro Hfl
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch3.sem)) $$ Hmw
  iintro ⟨⟨Hr3, Hxs, Hs3⟩, HsemG, HO⟩
  ihave Ht2 := (table_split d L o).2 $$ [Hxs Htr]; · isplitl [Hxs] <;> iassumption
  ihave Hr4 := (Entails.of_eq (show ((rV).view.loc (V d (cV L) (jV L)) ↦[(rV).view.set]{fullShare} _ : sProp 𝕄)
      = (rV).view.loc (V d (cV L) (jV L)) ↦{fullShare} words L o h by rw [hrs, ← gather_eq L o h fr (by decide) (addrs_inb L o h)])) $$ Hr3
  ihave Hs4 := (Entails.of_eq (show ((sV).view.loc (V d (cV L) (jV L)) ↦[(sV).view.set]{fullShare} _ : sProp 𝕄)
      = (sV).view.loc (V d (cV L) (jV L)) ↦{fullShare} _ by rw [hss])) $$ Hs3
  ihave Hm2 := (Entails.of_eq (show ((mV).view.loc (V d (cV L) (jV L)) ↦{fullShare} View.write (Elt F) (mV).view fm (tile_body.sl.dma0_1 L o) Finset.univ : sProp 𝕄)
      = (mV).view.loc (V d (cV L) (jV L)) ↦{fullShare} masks L o
      from congrArg _ (View.write_whole_univ _ _ _))) $$ Hm'
  -- the eighty multiplies
  iapply (wp_then d L (hmul _)) $$ [-]
  isplitl [Hr4]; · iexact Hr4
  isplitl [Hm2]; · iexact Hm2
  iintro ⟨Hr5', Hm3⟩
  ihave Hr5 := (show ((rV).view.loc (V d (cV L) (jV L)) ↦{fullShare} (fun x => FloatOps.mulf (words L o h x) (masks L o x)) : sProp 𝕄)
      ⊢ (rV).view.loc (V d (cV L) (jV L)) ↦{fullShare} (fun x => FloatOps.mulf (words L o h x) (masks L o x)) from .rfl) $$ Hr5'
  sl_exec
  sl_step
  isplitl [Ha' Hk' Ht2 Ho']
  · isplitl [Ha']; · iapply (Entails.of_eq (pts_aRow (F := F) d L _)); iexact Ha'
    isplitl [Hk']; · iapply (Entails.of_eq (pts_kRow (F := F) d L _)); iexact Hk'
    isplitl [Ht2]; · iexact Ht2
    iapply (Entails.of_eq ((pts_oRow (F := F) d L _).trans (pointsTo_congr (out_eq L o h)))); iexact Ho'
  isplitl [Hs4 Hr5 Hm3 Hbufs]
  · isplitl [Hs4]; · iexists _; iexact Hs4
    isplitl [Hr5]; · iexists _; iexact Hr5
    isplitl [Hm3]; · iexists _; iexact Hm3
    iexact Hbufs
  isplitl [HsemG HsemA HsemK HsemO Hsems]
  · isplitl [HsemG]; · iexact HsemG
    isplitl [HsemA]; · iexact HsemA
    isplitl [HsemK]; · iexact HsemK
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Poi

end
-- ==== Proof.Obl.lean ====
/-
  The SparseCore's obligation to its call: every vector subcore's task, as the call's frame asks for it.
-/
module

public import proofs.«01_k».proof.Proof.Tile

@[expose] public section

noncomputable section

namespace Cert.Poi

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v33_scv : Memref Cert.KernelIdeal.sig Kind.scVector Space.hbm Cert.KernelIdeal.S49152000 EltTy.f32)
local notation "aV" => (Memref.whole Cert.KernelIdeal.main_v27_scv : Memref Cert.KernelIdeal.sig Kind.scVector Space.hbm Cert.KernelIdeal.S32x1280 EltTy.i32)
local notation "kV" => (Memref.whole Cert.KernelIdeal.main_v32_scv : Memref Cert.KernelIdeal.sig Kind.scVector Space.hbm Cert.KernelIdeal.S32x1280 EltTy.f32)
local notation "oV" => (Memref.whole Cert.KernelIdeal.main_v34_scv : Memref Cert.KernelIdeal.sig Kind.scVector Space.hbm Cert.KernelIdeal.S32x1280 EltTy.f32)
local notation "sV" => (Memref.whole Cert.KernelIdeal.cc1_scratch0 : Memref Cert.KernelIdeal.sig Kind.scVector Space.vmem Cert.KernelIdeal.S1280 EltTy.i32)
local notation "rV" => (Memref.whole Cert.KernelIdeal.cc1_scratch1 : Memref Cert.KernelIdeal.sig Kind.scVector Space.vmem Cert.KernelIdeal.S1280 EltTy.f32)
local notation "mV" => (Memref.whole Cert.KernelIdeal.cc1_scratch2 : Memref Cert.KernelIdeal.sig Kind.scVector Space.vmem Cert.KernelIdeal.S1280 EltTy.f32)

variable [FloatOps F] (o : Ops F) (h : o.InRange)

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- A vector subcore's task is the gather kernel at its grid point. -/
theorem defs₀_vector (c : Fin τ.nSC) (s : Fin τ.nSub) :
    defs₀ (F := F) (.scVector c s) 1 ()
      = SparseCore.onTile hcore1 hsub1 (fun c s => cc1_gather_k (coordsV c s)
          tV (Memref.isWhole_whole _) aV (Memref.isWhole_whole _) kV (Memref.isWhole_whole _) oV (Memref.isWhole_whole _)
          sV (Memref.isWhole_whole _) rV (Memref.isWhole_whole _) mV (Memref.isWhole_whole _) cc1_scratch3 cc1_scoped0 cc1_scoped1 cc1_scoped2) ⟨⟩ c s := rfl

omit [FloatOps F] in
/-- Waits recorded outside the call may be recorded under the call's index too. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW', HO⟩
  iexists W'; isplitr
  · ipureintro; exact fun p hp => (hW' p hp).imp_right Or.inl
  · iexact HO

set_option maxRecDepth 16384 in
/-- Every vector subcore meets the obligation of the call. -/
theorem tileObl (hF : (K (F := F)).Facts) : (K (F := F)).TileObl (D (F := F)) 𝒱 (P o h) v₀ 0 := by
  intro d c i O W hO _ _
  simp only [show (P o h).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) o h hF O W hO).trans (wp_mono frame _ _ fun _ => waits_weaken)

end Cert.Poi

end
-- ==== Proof.Run.lean ====
/-
  The program's run: the contents of the TensorCore's buffers after each of its four parts, the TensorCore's thread
  through them, and the whole program's end.
-/
module

public import proofs.«01_k».proof.Proof.Host
public import proofs.«01_k».proof.Proof.Obl

@[expose] public section

noncomputable section

namespace Cert.Poi

open Cert.KernelIdeal Cert.KernelIdeal.Gen
open Idealize.ShloMosaic
open Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
/-- A buffer of the TensorCore as one of the device's. -/
abbrev dref (b : Ref sig .tc) : DevRef τ sig := Proc.devRef .tc b

/-- The SparseCore call's operands at a valuation. -/
def operandsOf (W : Valuation τ sig (Elt F)) : Ops F := ⟨W (dref main_v27), W (dref main_v32), W (dref main_v33), W (dref main_v34)⟩

variable (m : (ℓ : Loc nD τ sig) → Buf (Elt F) ℓ) (ρ : Dev nD → PrngReg)

/-! ## The contents after each part -/

/-- At the launch; -/
def V0 (d : Dev nD) : Valuation τ sig (Elt F) := fun b => m (d, b)
/-- the scores the suppression keeps; -/
def keptScores (d : Dev nD) : Buf (Elt F) ((d.tc : Thread nD τ).loc main_v0) := kept (fun d b => V0 m d (dref b)) d
/-- after the suppression call; -/
def V1 (d : Dev nD) : Valuation τ sig (Elt F) := Function.update (V0 m d) (dref main_v0) (keptScores m d)
/-- at the SparseCore call; -/
def V2 (d : Dev nD) : Valuation τ sig (Elt F) := after preOps (V1 m d)
/-- the SparseCore call's operands; -/
abbrev operands : Ops F := operandsOf (V2 m 0)

variable (h : (operands m).InRange)

/-- after the SparseCore call; -/
abbrev V3 (d : Dev nD) : Valuation τ sig (Elt F) := Function.update (V2 m d) (dref main_v34) ((operands m).res h)
/-- at the end. -/
def V4 (d : Dev nD) : Valuation τ sig (Elt F) := after endOps (V3 m h d)

/-! ## The SparseCore call's operands among the buffers -/

/-- The four operands of the SparseCore call. -/
def callBufs : Finset (DevRef τ sig) := {dref main_v27, dref main_v32, dref main_v33, dref main_v34}

theorem callBufs_sub : callBufs ⊆ Pipeline.ucRefs τ sig := by decide

/-- The four held at a valuation are each held. -/
theorem held_callBufs (d : Dev nD) (W : Valuation τ sig (Elt F)) :
    (held (SparseCore.T d) callBufs W : sProp 𝕄) = iprop((aLoc d ↦{fullShare} (operandsOf W).a) ∗ (kLoc d ↦{fullShare} (operandsOf W).k)
      ∗ (tLoc d ↦{fullShare} (operandsOf W).t) ∗ (oLoc d ↦{fullShare} (operandsOf W).o)) := by
  unfold held callBufs
  rw [SparseCore.bigSep_insert' (by decide), SparseCore.bigSep_insert' (by decide), SparseCore.bigSep_insert' (by decide), bigSep_singleton]
  rfl

/-- The operands as they were and the result at new words, with the other buffers as before, are the buffers with the
    result changed. -/
theorem held_changed (d : Dev nD) (W : Valuation τ sig (Elt F)) (r : (dref main_v34).ty.Contents (Elt F)) :
    iprop(((aLoc d ↦{fullShare} (operandsOf W).a) ∗ (kLoc d ↦{fullShare} (operandsOf W).k) ∗ (tLoc d ↦{fullShare} (operandsOf W).t) ∗ (oLoc d ↦{fullShare} r))
      ∗ held (SparseCore.T d) (Pipeline.ucRefs τ sig \ callBufs) W)
      ⊢ (held (SparseCore.T d) (Pipeline.ucRefs τ sig) (Function.update W (dref main_v34) r) : sProp 𝕄) := by
  have hrest : (held (SparseCore.T d) (Pipeline.ucRefs τ sig \ callBufs) (Function.update W (dref main_v34) r) : sProp 𝕄)
      = held (SparseCore.T d) (Pipeline.ucRefs τ sig \ callBufs) W :=
    held_congr _ fun b hb => Function.update_of_ne (fun e => (Finset.mem_sdiff.mp hb).2 (by rw [e]; decide)) _ _
  rw [held_sub_split (SparseCore.T d) callBufs_sub (Function.update W (dref main_v34) r), hrest, held_callBufs]
  have e : operandsOf (Function.update W (dref main_v34) r) = { operandsOf W with o := r } := by
    unfold operandsOf
    rw [Function.update_self, Function.update_of_ne (show dref main_v27 ≠ dref main_v34 by decide),
      Function.update_of_ne (show dref main_v32 ≠ dref main_v34 by decide), Function.update_of_ne (show dref main_v33 ≠ dref main_v34 by decide)]
  rw [e]

/-- The same at the call's operands and its result. -/
theorem held_after :
    iprop(((aLoc 0 ↦{fullShare} (operands m).a) ∗ (kLoc 0 ↦{fullShare} (operands m).k) ∗ (tLoc 0 ↦{fullShare} (operands m).t) ∗ (oLoc 0 ↦{fullShare} (operands m).res h))
      ∗ held (SparseCore.T 0) (Pipeline.ucRefs τ sig \ callBufs) (V2 m 0)) ⊢ (held (SparseCore.T 0) (Pipeline.ucRefs τ sig) (V3 m h 0) : sProp 𝕄) :=
  held_changed 0 (V2 m 0) ((operands m).res h)

/-! ## The launch's ghost state -/

/-- The launch's ghost state: the handshakes' rounds and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the TensorCore starts with of the pipeline's protocol. -/
abbrev pipeGhost (d : Dev nD) : sProp 𝕄 :=
  iprop((bigSep Finset.univ fun p => Pipeline.cellsGhost (Pipeline.pin (pcfgs (F := F)) adm) (EP (F := F)) p d)
    ∗ (bigSep Finset.univ fun p => Pipeline.toksInit (Pipeline.pin (pcfgs (F := F)) adm) (EP (F := F)) p d))

/-- Nothing, any number of times. -/
theorem emps {I : Type} (s : Finset I) : (bigSep s fun _ => iprop(emp)) = (iprop(emp) : sProp 𝕄) := bigSep_emp_const s

/-- Owned at the launch, the ghost state is the handshakes' and each TensorCore's part of the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P (operands m) h).x q thr) := by
  unfold u₀
  iintro Hu
  ihave H := (ownU_parts _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (operands m) h).x q thr) = bigSep Finset.univ fun _ => iprop(emp) from
    bigSep_congr fun _ _ => bigSep_univ_of_subsingleton (0 : Fin 1), emps]
  iempintro

/-! ## The suppression call -/

set_option maxHeartbeats 2000000 in
/-- The TensorCore's first instruction: the suppression call, from the launch's contents to those with the kept
    scores, the handshakes' state carried through. -/
theorem wp_suppress [∀ e, Nonempty (Elt F e)] (d : Dev nD) (Q : PUnit → sProp 𝕄) :
    iprop((iprop(boundary (SparseCore.T d) ∗ held (SparseCore.T d) (Pipeline.ucRefs τ sig) (V1 m d) ∗ owing d) -∗ Q ⟨⟩)
        ∗ boundary (SparseCore.T d) ∗ (held (SparseCore.T d) (Pipeline.ucRefs τ sig) (V0 m d) ∗ owing d) ∗ levAts (K (F := F)).L (K (F := F)).lev ∗ pipeGhost d)
      ⊢ wp frame (wpE ((K (F := F)).defs (D (F := F))) 𝒱 (SparseCore.T d) none) Set.univ
          (Prog.lift (.customCall (SparseCore.inner (Pipeline.entry 0)) ())) Q := by
  refine BI.Entails.trans ?_ ((K (F := F)).wp_liftProg (D (F := F)) 𝒱 (SparseCore.T d) Set.univ none
    (.op (.customCall (Pipeline.entry (0 : Fin 1)) ()) .ret) Q)
  have hreg := Pipeline.RegionSeg.wp (pcfgs (F := F)) adm (nmsDats fun d b => V0 m d (dref b)) none cellOf_inj (EP (F := F)) defs₀ 𝒱₀
    (K (F := F)).L (K (F := F)).lev
    (nmsRegion (fun d b => V0 m d (dref b)) (fun d b => V1 m d (dref b)) (fun d => Function.update_self (β := fun b : DevRef τ sig => Buf (Elt F) (d, b)) _ _ _)
      fun d b hb => Function.update_of_ne (fun e => hb (Proc.devRef_injective _ e)) _ _) d none (fun _ hu => nomatch hu) .ret Q
  refine BI.Entails.trans ?_ hreg
  show _ ⊢ iprop((iprop(boundary (SparseCore.T d) ∗ iprop(unscopedBufs d (fun b => V1 m d (dref b)) ∗ owing d))
      -∗ wp frame (wpE (D (F := F)) 𝒱 (SparseCore.T d) none) Set.univ (.ret ⟨⟩) Q)
    ∗ boundary (SparseCore.T d) ∗ iprop(unscopedBufs d (fun b => V0 m d (dref b)) ∗ owing d) ∗ levAts (K (F := F)).L (K (F := F)).lev
    ∗ Pipeline.cellsGhost (Pipeline.pin (pcfgs (F := F)) adm) (EP (F := F)) 0 d ∗ Pipeline.toksInit (Pipeline.pin (pcfgs (F := F)) adm) (EP (F := F)) 0 d)
  rw [← Pipeline.unscopedBufs_held, ← Pipeline.unscopedBufs_held]
  unfold pipeGhost
  rw [bigSep_univ_of_subsingleton (0 : Fin 1), bigSep_univ_of_subsingleton (0 : Fin 1)]
  iintro ⟨Hk, Hb, Hpre, Hlev, Hg, Ht⟩
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

/-! ## The TensorCore's thread -/

/-- What the TensorCore holds before the call: what it owes, and a rest. -/
theorem tcSt_owing (d : Dev nD) : ∃ R : sProp 𝕄, ((K (F := F)).tcSt EH d 0 : sProp 𝕄) = iprop(owing d ∗ R) := ⟨_, rfl⟩

/-- What is claimed of at the end: the result and the two arguments. -/
def endBufs : Finset (DevRef τ sig) := {dref main_v47, dref main_arg0, dref main_arg1}

theorem endBufs_sub : endBufs ⊆ Pipeline.ucRefs τ sig := by decide

abbrev vLoc (b : Ref sig .tc) (d : Dev nD) : Loc nD τ sig := (d.tc : Thread nD τ).loc b

/-- The result and the arguments at the program's last contents. -/
abbrev FIN (d : Dev nD) : sProp 𝕄 := held (SparseCore.T d) endBufs (V4 m h d)

/-- The program on a device's TensorCore: the suppression, the first operations, the SparseCore call, the last
    operations; it ends with its buffers at the last contents. -/
theorem hmain [∀ e, Nonempty (Elt F e)] (κ : GSem nD τ sig → ℕ) (d : Dev nD) :
    iprop((K (F := F)).ctx EH (P (operands m) h) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (V0 m d) from
    Pipeline.unscopedBufs_held d (V0 m d), wp_bind]
  obtain rfl : d = 0 := Subsingleton.elim _ _
  obtain ⟨R, hR⟩ := tcSt_owing (F := F) 0
  iintro ⟨#Hctx, Hst, ⟨Hb, Hbufs, Hts, -⟩, Hg⟩
  ihave Hst' := (Entails.of_eq hR) $$ Hst
  icases Hst' with ⟨HO, Hrest⟩
  iapply (wp_suppress m 0 _)
  isplitr [Hb Hbufs HO Hg]; swap
  · isplitl [Hb]; · iexact Hb
    isplitl [Hbufs HO]
    · isplitl [Hbufs]; · iexact Hbufs
      iexact HO
    isplitr; · iapply (SparseCore.Cfg.ctx_levAts κ) $$ Hctx
    iexact Hg
  iintro ⟨Hb, Hbufs, HO⟩
  iapply (wp_seq 𝒱 none Set.univ 0 (Pipeline.ucRefs τ sig) _ preOps preOps_sub preOps_fresh (V1 m 0)) $$ [Hb Hbufs]
  · isplitl [Hb]; · iexact Hb
    iexact Hbufs
  rw [show after preOps (V1 m 0) = V2 m 0 from rfl]
  iintro ⟨Hb, Hbufs⟩
  ihave Hb2 := (Entails.of_eq (held_sub_split (SparseCore.T 0) callBufs_sub (V2 m 0))) $$ Hbufs
  icases Hb2 with ⟨Hops, Hother⟩
  ihave Hops2 := (Entails.of_eq (held_callBufs 0 (V2 m 0))) $$ Hops
  rw [wp_bind]
  iapply ((K (F := F)).wp_run (D (F := F)) 𝒱 (EH := EH) (P := P (operands m) h) κ 0 0) $$ [HO Hrest Hops2 Hother Hb Hts]
  isplitr; · iexact Hctx
  isplitl [HO Hrest]
  · iapply (Entails.of_eq hR.symm)
    isplitl [HO]; · iexact HO
    iexact Hrest
  isplitl [Hops2]
  · iapply (Entails.of_eq (st_eq (operands m) h 0).symm) $$ Hops2
  iintro ⟨Hst, Hdn⟩
  ihave Hdn2 := (Entails.of_eq (dn_eq (operands m) h 0)) $$ Hdn
  ihave Hbufs := (held_after m h) $$ [Hdn2 Hother]
  · isplitl [Hdn2]; · iexact Hdn2
    iexact Hother
  rw [← bind_pure (seq endOps)]
  iapply (wp_seq 𝒱 none Set.univ 0 (Pipeline.ucRefs τ sig) _ endOps endOps_sub endOps_fresh (V3 m h 0)) $$ [Hb Hbufs]
  · isplitl [Hb]; · iexact Hb
    iexact Hbufs
  rw [show after endOps (V3 m h 0) = V4 m h 0 from rfl]
  iintro ⟨Hb, Hbufs⟩
  rw [wp_pure]
  imodintro
  isplitl [Hst]; · iexact Hst
  isplitl [Hbufs]
  · ihave H := (Entails.of_eq (held_sub_split (SparseCore.T 0) endBufs_sub (V4 m h 0))) $$ Hbufs
    icases H with ⟨H, -⟩
    iexact H
  isplitl [Hb] <;> iassumption

/-! ## The program's run -/

/-- The memory at the end holds the last contents in the result and the arguments. -/
def fq (d : Dev nD) (s' : Phys nD τ sig (Elt F)) : Prop := ∀ b ∈ endBufs, s'.mem.mem (d, b) = V4 m h d b

theorem hfin (d : Dev nD) (s' : Phys nD τ sig (Elt F)) : iprop(FIN m h d ∗ SI s') ⊢ (⌜fq m h d s'⌝ : sProp 𝕄) := by
  unfold FIN held
  iintro ⟨H, HSI⟩
  ihave %e := (SI_pointsTo_bufs_agree (qs := fun _ => fullShare) endBufs) $$ [HSI H]
  · isplitl [HSI]; · iexact HSI
    iexact H
  ipureintro; exact e

/-- What is claimed of the end: the result and the arguments at the last contents, every semaphore at zero. -/
def QC : PUnit × MemSt nD τ sig (Elt F) → Prop := fun r => (∀ d : Dev nD, ∀ b ∈ endBufs, r.2.mem (d, b) = V4 m h d b) ∧ r.2.sem = fun _ => 0

/-- From any memory with zero counters whose addresses are in range, every fair execution of the program ends so. -/
theorem run_main [∀ e, Nonempty (Elt F e)] :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P (operands m) h) (A := ∅) facts v₀
    (fun q hq => match q with | 0 => nomatch hq)
    (fun q _ => match q with | 0 => tileObl (operands m) h facts)
    (fun q _ => match q with | 0 => SparseCore.Cfg.VecSplit.of_plain (vecSplit (operands m) h))
    m ρ main pipeGhost (FIN m h) (u₀ (F := F)) (sep_elim_left.trans (hu₀ m h)) (hmain m ρ h) (fq m h) (hfin m h) (QC m h) (fun _ e hz => ⟨e, hz⟩)

end Cert.Poi

end
-- ==== Proof.Vals.lean ====
/-
  What the buffers hold at the SparseCore call and at the end, as functions of the kept scores and the table.
-/
module

public import proofs.«01_k».proof.Proof.Run

@[expose] public section

noncomputable section

namespace Cert.Poi

open Cert.KernelIdeal Cert.KernelIdeal.Gen
open Idealize.ShloMosaic
open Idealize.ShloMosaic.TcCoe
open Idealize.ShloMosaic.StableHlo

variable {F : FTy → Type} [FloatOps F]

/-! ## The host's functions of whole arrays -/

/-- A divisor, one in place of zero. -/
def safeDiv (n : IVec S_ 32) : IVec S_ 32 := select (cmpi .eq n (constantI S_ 32 0#32)) (constantI S_ 32 1#32) n
/-- A scalar at every place of the table of peaks. -/
def spread (n : IVec S_ 32) : IVec S8x100 32 := broadcastInDim S8x100 ![] bcast_S_S8x100 n
/-- The remainder rounded toward zero; -/
def rem0 (x : IVec S8x100 32) (n : IVec S_ 32) : IVec S8x100 32 := Host.remsi x (spread (safeDiv n))
/-- the remainder with the divisor's sign, as `remainder` computes it. -/
def remT (x : IVec S8x100 32) (n : IVec S_ 32) : IVec S8x100 32 :=
  select (andi (cmpi .ne (cmpi .slt (rem0 x n) (spread (constantI S_ 32 0#32)))
      (broadcastInDim S8x100 ![] bcast_S_S8x100 (cmpi .slt (safeDiv n) (constantI S_ 32 0#32))))
    (cmpi .ne (rem0 x n) (spread (constantI S_ 32 0#32)))) (addi (rem0 x n) (spread (safeDiv n))) (rem0 x n)
/-- The quotient rounded down, as `floor_divide` computes it. -/
def divT (x : IVec S8x100 32) (n : IVec S_ 32) : IVec S8x100 32 :=
  select (andi (cmpi .ne (signi x) (broadcastInDim S8x100 ![] bcast_S_S8x100 (signi n)))
      (cmpi .ne (Host.remsi x (spread n)) (spread (constantI S_ 32 0#32))))
    (subi (Host.divsi x (spread n)) (spread (constantI S_ 32 1#32))) (Host.divsi x (spread n))

/-- The planes of all images in one row each. -/
def flat (x : FVec F S8x3x192x640 .f32) : FVec F S8x368640 .f32 := shapeCast S8x368640 x shapeCasts_S8x3x192x640_S8x368640
/-- The hundred largest scores of each image; -/
def topVal (x : FVec F S8x368640 .f32) : FVec F S8x100 .f32 := (Host.topK S8x100 1 (FloatOps.cmpfTotal .gt) x sliceFits_S8x368640_S8x100).1
/-- and where they stand. -/
def topIdx (x : FVec F S8x368640 .f32) : IVec S8x100 32 := (Host.topK S8x100 1 (FloatOps.cmpfTotal .gt) x sliceFits_S8x368640_S8x100).2
/-- The place of each peak in its plane. -/
def placeT (x : FVec F S8x368640 .f32) : IVec S8x100 32 := remT (topIdx x) (constantI S_ 32 122880#32)
/-- The scores in one row; -/
def scoreT (x : FVec F S8x368640 .f32) : FVec F S800 .f32 := shapeCast S800 (topVal x) shapeCasts_S8x100_S800
/-- one where the score is at the threshold or above, zero elsewhere. -/
def maskT (x : FVec F S8x368640 .f32) : FVec F S800 .f32 :=
  uitofp .f32 (cmpf .oge (scoreT x) (broadcastInDim S800 ![] bcast_S_S800 (constant S_ .f32 0x3E800000#32)))
/-- The address of each word to gather: place, plus the channel's offset, plus the image's. -/
def addrT (p : IVec S8x100 32) : IVec S8x100x50 32 :=
  addi (addi (broadcastInDim S8x100x50 ![0, 1, 2] bcast_S8x100x1_S8x100x50_0_1_2 (broadcastInDim S8x100x1 ![0, 1] bcast_S8x100_S8x100x1_0_1 p))
      (broadcastInDim S8x100x50 ![0, 1, 2] bcast_S1x1x50_S8x100x50_0_1_2 (broadcastInDim S1x1x50 ![2] bcast_S50_S1x1x50_2
        (muli (iotaInDim S50 32 0) (broadcastInDim S50 ![] bcast_S_S50 (constantI S_ 32 122880#32))))))
    (broadcastInDim S8x100x50 ![0, 1, 2] bcast_S8x1x1_S8x100x50_0_1_2 (broadcastInDim S8x1x1 ![0] bcast_S8_S8x1x1_0
      (muli (iotaInDim S8 32 0) (broadcastInDim S8 ![] bcast_S_S8 (constantI S_ 32 6144000#32)))))
/-- The addresses as the tiles' rows, padded with zeros. -/
def addrRows (p : IVec S8x100 32) : IVec S32x1280 32 :=
  concatenate S32x1280 1 [⟨S32x1250, shapeCast S32x1250 (addrT p) shapeCasts_S8x100x50_S32x1250⟩,
    ⟨S32x30, broadcastInDim S32x30 ![] bcast_S_S32x30 (constantI S_ 32 0#32)⟩] concatenates_S32x1250_S32x30_S32x1280_d1
/-- The mask as the tiles' rows, padded with zeros. -/
def maskRows (k : FVec F S800 .f32) : FVec F S32x1280 .f32 :=
  concatenate S32x1280 1 [⟨S32x1250, shapeCast S32x1250 (broadcastInDim S8x100x50 ![0, 1, 2] bcast_S8x100x1_S8x100x50_0_1_2
      (shapeCast S8x100x1 k shapeCasts_S800_S8x100x1)) shapeCasts_S8x100x50_S32x1250⟩,
    ⟨S32x30, broadcastInDim S32x30 ![] bcast_S_S32x30 (constant S_ .f32 0x00000000#32)⟩] concatenates_S32x1250_S32x30_S32x1280_d1
/-- The result from the gathered rows, the scores, the mask, the columns and the rows. -/
def endT (g : FVec F S32x1280 .f32) (s k : FVec F S800 .f32) (xs ys : FVec F S8x100 .f32) : FVec F S800x53 .f32 :=
  concatenate S800x53 1 [⟨S800x1, broadcastInDim S800x1 ![0] bcast_S800_S800x1_0 (mulf s k)⟩,
    ⟨S800x50, shapeCast S800x50 (extractStridedSlice S32x1250 ![0, 0] g slices_S32x1280_S32x1250_0_0) shapeCasts_S32x1250_S800x50⟩,
    ⟨S800x2, mulf (concatenate S800x2 1 [⟨S800x1, broadcastInDim S800x1 ![0] bcast_S800_S800x1_0 (shapeCast S800 xs shapeCasts_S8x100_S800)⟩,
        ⟨S800x1, broadcastInDim S800x1 ![0] bcast_S800_S800x1_0 (shapeCast S800 ys shapeCasts_S8x100_S800)⟩] concatenates_S800x1_S800x1_S800x2_d1)
      (broadcastInDim S800x2 ![0, 1] bcast_S800x1_S800x2_0_1 (broadcastInDim S800x1 ![0] bcast_S800_S800x1_0 k))⟩]
    concatenates_S800x1_S800x50_S800x2_S800x53_d1

/-! ## The contents between the lists -/

variable (V : Valuation τ sig (Elt F))

/-- The place of the peaks is not written after it is computed: by the rows' operations, -/
theorem row_keeps : after rowOps V (dref main_v2) = V (dref main_v2) := by
  simp only [dref, rowOps, divOps, List.cons_append, List.nil_append, TRef.unary, TRef.binary, TRef.nullary, TRef.ternary, TRef.toBuf, TRef.ofBuf, cast_eq]
  after_reads_simp
/-- the columns', -/
theorem col_keeps : after colOps V (dref main_v2) = V (dref main_v2) := by
  simp only [dref, colOps, remOps, List.cons_append, List.nil_append, TRef.unary, TRef.binary, TRef.nullary, TRef.ternary, TRef.toBuf, TRef.ofBuf, cast_eq]
  after_reads_simp
/-- or the mask's. -/
theorem mask_keeps : after maskOps V (dref main_v2) = V (dref main_v2) := by
  simp only [dref, maskOps]
  after_reads_simp
/-- The places, -/
theorem place_read : after (placeOps) (after topOps V) (dref main_v2) = placeT (flat (V (dref main_v0))) := by
  simp only [dref, topOps, placeOps, remOps, TRef.unary, TRef.binary, TRef.nullary, TRef.ternary, TRef.toBuf, TRef.ofBuf, cast_eq]
  after_reads_simp
  rfl
/-- and the addresses from them. -/
theorem addr_read : after padOps (after addrOps V) (dref main_v27) = addrRows (V (dref main_v2)) := by
  simp only [dref, addrOps, padOps]
  after_reads_simp
  rfl

/-- The addresses; -/
theorem pre_addr : after preOps V (dref main_v27) = addrRows (placeT (flat (V (dref main_v0)))) := by
  unfold preOps
  simp only [after_append]
  rw [addr_read, mask_keeps, col_keeps, row_keeps, place_read]
/-- the mask by word; -/
theorem pre_mask : after preOps V (dref main_v32) = maskRows (maskT (flat (V (dref main_v0)))) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp
  rfl

/-- the table; -/
theorem pre_table : after preOps V (dref main_v33) = shapeCast S49152000 (V (dref main_arg1)) shapeCasts_S8x50x192x640_S49152000 := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp
  rfl

/-- the scores; -/
theorem pre_score : after preOps V (dref main_v7) = scoreT (flat (V (dref main_v0))) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp
  rfl

/-- the mask by peak; -/
theorem pre_maskRow : after preOps V (dref main_v10) = maskT (flat (V (dref main_v0))) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp
  rfl

/-- the rows; -/
theorem pre_rowF : after preOps V (dref main_v4) = sitofp .f32 (divT (placeT (flat (V (dref main_v0)))) (constantI S_ 32 640#32)) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp
  rfl

/-- the columns; -/
theorem pre_colF : after preOps V (dref main_v6) = sitofp .f32 (remT (placeT (flat (V (dref main_v0)))) (constantI S_ 32 640#32)) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp
  rfl

/-- the arguments are not written. -/
theorem pre_arg0 : after preOps V (dref main_arg0) = V (dref main_arg0) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp

/-- The second argument likewise. -/
theorem pre_arg1 : after preOps V (dref main_arg1) = V (dref main_arg1) := by
  simp only [dref, preOps, topOps, placeOps, remOps, rowOps, divOps, colOps, maskOps, addrOps, padOps, List.cons_append, List.nil_append,
    TRef.unary, TRef.binary, TRef.nullary, TRef.ternary, TRef.toBuf, TRef.ofBuf, cast_eq]
  after_reads_simp

/-- The result from what the SparseCore call left. -/
theorem end_read : after endOps V (dref main_v47)
    = endT (V (dref main_v34)) (V (dref main_v7)) (V (dref main_v10)) (V (dref main_v6)) (V (dref main_v4)) := by
  simp only [dref, endOps]
  after_reads_simp
  rfl
/-- The arguments are not written by the last operations either. -/
theorem end_arg0 : after endOps V (dref main_arg0) = V (dref main_arg0) := by
  simp only [dref, endOps]
  after_reads_simp
theorem end_arg1 : after endOps V (dref main_arg1) = V (dref main_arg1) := by
  simp only [dref, endOps]
  after_reads_simp

/-! ## The program's contents -/

variable (m : (ℓ : Loc nD τ sig) → Buf (Elt F) ℓ)

/-- The kept scores, the planes in rows. -/
def scores (d : Dev nD) : FVec F S8x368640 .f32 := flat (keptScores m d)
/-- The table of the launch. -/
def table (d : Dev nD) : FVec F S8x50x192x640 .f32 := m ((d.tc : Thread nD τ).loc main_arg1)

theorem V1_kept (d : Dev nD) : V1 m d (dref main_v0) = keptScores m d := Function.update_self (β := fun b : DevRef τ sig => Buf (Elt F) (d, b)) _ _ _
theorem V1_other (d : Dev nD) (b : Ref sig .tc) (hb : b ≠ main_v0) : V1 m d (dref b) = m ((d.tc : Thread nD τ).loc b) :=
  Function.update_of_ne (fun e => hb (Proc.devRef_injective _ e)) _ _

/-- The operands of the SparseCore call: addresses, mask, table. -/
theorem operands_a : (operands m).a = addrRows (placeT (scores m 0)) := by
  refine (pre_addr (V1 m 0)).trans ?_
  rw [V1_kept]; rfl
theorem operands_k : (operands m).k = maskRows (maskT (scores m 0)) := by
  refine (pre_mask (V1 m 0)).trans ?_
  rw [V1_kept]; rfl
theorem operands_t : (operands m).t = shapeCast S49152000 (table m 0) shapeCasts_S8x50x192x640_S49152000 := by
  refine (pre_table (V1 m 0)).trans ?_
  rw [V1_other m 0 main_arg1 (by decide)]; rfl

variable (h : (operands m).InRange)

theorem V3_other (d : Dev nD) (b : Ref sig .tc) (hb : b ≠ main_v34) : V3 m h d (dref b) = V2 m d (dref b) :=
  Function.update_of_ne (fun e => hb (Proc.devRef_injective _ e)) _ _

/-- The result at the end, from the kept scores and the gathered rows. -/
theorem V4_result : V4 m h 0 (dref main_v47)
    = endT ((operands m).res h) (scoreT (scores m 0)) (maskT (scores m 0))
        (sitofp .f32 (remT (placeT (scores m 0)) (constantI S_ 32 640#32))) (sitofp .f32 (divT (placeT (scores m 0)) (constantI S_ 32 640#32))) := by
  have e (b : Ref sig .tc) (hb : b ≠ main_v34) := V3_other m h 0 b hb
  refine (end_read (V3 m h 0)).trans ?_
  rw [e main_v7 (by decide), e main_v10 (by decide), e main_v6 (by decide), e main_v4 (by decide),
    show V3 m h 0 (dref main_v34) = (operands m).res h from Function.update_self (β := fun b : DevRef τ sig => Buf (Elt F) ((0 : Dev nD), b)) _ _ _]
  unfold V2
  rw [pre_score, pre_maskRow, pre_colF, pre_rowF, V1_kept]
  rfl

/-- The arguments at the end are those of the launch. -/
theorem V4_arg0 (d : Dev nD) : V4 m h d (dref main_arg0) = m ((d.tc : Thread nD τ).loc main_arg0) := by
  refine (end_arg0 (V3 m h d)).trans ((V3_other m h d main_arg0 (by decide)).trans ((pre_arg0 (V1 m d)).trans ?_))
  exact V1_other m d main_arg0 (by decide)
theorem V4_arg1 (d : Dev nD) : V4 m h d (dref main_arg1) = m ((d.tc : Thread nD τ).loc main_arg1) := by
  refine (end_arg1 (V3 m h d)).trans ((V3_other m h d main_arg1 (by decide)).trans ((pre_arg1 (V1 m d)).trans ?_))
  exact V1_other m d main_arg1 (by decide)

end Cert.Poi

end
-- ==== Proof.Index.lean ====
/-
  The addresses the host computes lie inside the table.
-/
module

public import proofs.«01_k».proof.Proof.Vals
public import Idealize.ShloMosaic.Lib.Pointwise

@[expose] public section

noncomputable section

namespace Cert.Poi

open Cert.KernelIdeal Cert.KernelIdeal.Gen
open Idealize.ShloMosaic
open Idealize.ShloMosaic.TcCoe
open Idealize.ShloMosaic.StableHlo

variable {F : FTy → Type} [FloatOps F]

/-- A remainder by 122880, brought to the divisor's sign, is below 122880. -/
theorem word_mod (x : BitVec 32) :
    (Scalar.select (IntOp.andi (IntOp.cmpi .ne (IntOp.cmpi .slt (x.srem 122880#32) 0#32) 0#1) (IntOp.cmpi .ne (x.srem 122880#32) 0#32))
      (IntOp.addi (x.srem 122880#32) 122880#32) (x.srem 122880#32)).toNat < 122880 := by
  have h1 : (x.srem 122880#32).toInt = x.toInt.tmod 122880 := by rw [BitVec.toInt_srem]; rfl
  have h2 : x.toInt.tmod 122880 < 122880 := Int.tmod_lt_of_pos _ (by decide)
  have h3 : -122880 < x.toInt.tmod 122880 := Int.lt_tmod_of_pos _ (by decide)
  rw [← h1] at h2 h3
  clear h1
  generalize x.srem 122880#32 = r at h2 h3 ⊢
  have ht := BitVec.toInt_eq_toNat_cond r
  simp only [Scalar.select, IntOp.andi, IntOp.cmpi, IntOp.addi]
  by_cases hn : r.slt 0#32
  · have hs : r.toInt < 0 := by simpa [BitVec.slt] using hn
    have hz : r ≠ 0#32 := by rintro rfl; simp at hs
    have hb : (r != 0#32) = true := by simpa using hz
    simp only [hn, hb]
    simp [BitVec.toNat_add]
    split_ifs at ht <;> omega
  · have hs : 0 ≤ r.toInt := by simpa [BitVec.slt] using hn
    simp only [hn]
    simp
    split_ifs at ht <;> omega

/-- A sum of three small words does not wrap. -/
theorem word_sum (w : BitVec 32) (c i : ℕ) (hw : w.toNat < 122880) (hc : c < 50) (hi : i < 8) :
    (w + BitVec.ofNat 32 c * 122880#32 + BitVec.ofNat 32 i * 6144000#32).toNat = w.toNat + c * 122880 + i * 6144000 := by
  have h1 : (BitVec.ofNat 32 c * 122880#32).toNat = c * 122880 := by
    rw [BitVec.toNat_mul, BitVec.toNat_ofNat, BitVec.toNat_ofNat]; norm_num; omega
  have h2 : (BitVec.ofNat 32 i * 6144000#32).toNat = i * 6144000 := by
    rw [BitVec.toNat_mul, BitVec.toNat_ofNat, BitVec.toNat_ofNat]; norm_num; omega
  rw [BitVec.toNat_add, BitVec.toNat_add, h1, h2]
  norm_num
  omega

/-- The place of a peak is below the size of a plane. -/
theorem place_lt (x : IVec S8x100 32) (j : S8x100.Idx) : (remT x (constantI S_ 32 122880#32) j).toNat < 122880 := by
  have e1 : Scalar.select (IntOp.cmpi .eq 122880#32 0#32) 1#32 122880#32 = 122880#32 := by decide
  have e2 : IntOp.cmpi .slt 122880#32 0#32 = 0#1 := by decide
  have e3 (y : BitVec 32) : IntOp.remsi .host y 122880#32 = y.srem 122880#32 := by
    unfold IntOp.remsi
    rw [if_neg]
    rintro (h | ⟨-, h⟩) <;> exact absurd h (by decide)
  pointwise [remT, rem0, spread, safeDiv]
  rw [e1, e2, e3]
  exact word_mod (x j)

/-- An address is the place, plus the channel's offset, plus the image's: nothing wraps. -/
theorem addr_val (p : IVec S8x100 32) (hp : ∀ j, (p j).toNat < 122880) (i : Fin 8) (k : Fin 100) (c : Fin 50) :
    (addrT p (ix3 i k c)).toNat = (p (ix2 i k)).toNat + c * 122880 + i * 6144000 := by
  have e : addrT p (ix3 i k c) = p (ix2 i k) + BitVec.ofNat 32 c * 122880#32 + BitVec.ofNat 32 i * 6144000#32 := by
    pointwise [addrT]
    rfl
  rw [e]
  exact word_sum _ _ _ (hp _) c.2 i.2

/-- Every address lies inside the table, -/
theorem addr_lt (p : IVec S8x100 32) (hp : ∀ j, (p j).toNat < 122880) (j : S8x100x50.Idx) : (addrT p j).toNat < 49152000 := by
  obtain ⟨i, k, c, rfl⟩ : ∃ (i : Fin 8) (k : Fin 100) (c : Fin 50), j = ix3 i k c := ⟨j 0, j 1, j 2, eq_ix3 j⟩
  rw [addr_val p hp]
  have := hp (ix2 i k)
  omega
/-- the padding too. -/
theorem addrRows_lt (p : IVec S8x100 32) (hp : ∀ j, (p j).toNat < 122880) (j : S32x1280.Idx) : (addrRows p j).toNat < 49152000 := by
  refine concatenate_forall (P := fun w : BitVec 32 => w.toNat < 49152000) S32x1280 1 _ _ ?_ j
  simp only [List.mem_cons, List.not_mem_nil, or_false, forall_eq_or_imp, forall_eq]
  exact ⟨fun i => addr_lt p hp _, fun i => by pointwise⟩

variable (m : (ℓ : Loc nD τ sig) → Buf (Elt F) ℓ)

/-- So the SparseCore call reads inside the table, whatever the arguments. -/
theorem inRange : (operands m).InRange := fun j => by
  rw [operands_a]
  exact addrRows_lt _ (fun j => place_lt _ j) j

end Cert.Poi

end
-- ==== Proof.Frames.lean ====
/-
  The frame claims: each program terminates without fault, leaves its arguments as they were and every counter at zero.
-/
module

public import proofs.«01_k».proof.Proof.Index
public import proofs.«01_k».proof.Proof.Gen.ReferenceIdeal.Run
public import proofs.«01_k».proof.Proof.Gen.Kernel
public import proofs.«01_k».proof.Defs
public import Idealize.ShloMosaic.Lib.Tactic

@[expose] public section

noncomputable section

namespace Cert.Poi

open Idealize.ShloMosaic Idealize.SL.Sem

section
variable {F : FTy → Type} [FloatOps F]

/-- A buffer read at the end: the contents after the last operation. -/
theorem QC.at {m : (ℓ : Loc Cert.KernelIdeal.nD Cert.KernelIdeal.τ Cert.KernelIdeal.sig) → Buf (Elt F) ℓ} {h : (operands m).InRange}
    {r : PUnit × MemSt Cert.KernelIdeal.nD Cert.KernelIdeal.τ Cert.KernelIdeal.sig (Elt F)} (H : QC m h r) (d : Dev Cert.KernelIdeal.nD)
    (b : Ref Cert.KernelIdeal.sig .tc) (hb : dref b ∈ endBufs) : r.2.mem ((d.tc : Thread Cert.KernelIdeal.nD Cert.KernelIdeal.τ).loc b) = V4 m h d (dref b) :=
  H.1 d _ hb

/-- The two arguments at the end are the two arguments of the launch. -/
theorem QC.args {m : (ℓ : Loc Cert.KernelIdeal.nD Cert.KernelIdeal.τ Cert.KernelIdeal.sig) → Buf (Elt F) ℓ} {h : (operands m).InRange}
    {r : PUnit × MemSt Cert.KernelIdeal.nD Cert.KernelIdeal.τ Cert.KernelIdeal.sig (Elt F)} (H : QC m h r) (d : Dev Cert.KernelIdeal.nD) :
    r.2.mem ((d.tc : Thread Cert.KernelIdeal.nD Cert.KernelIdeal.τ).loc Cert.KernelIdeal.main_arg0) = m ((d.tc : Thread Cert.KernelIdeal.nD Cert.KernelIdeal.τ).loc Cert.KernelIdeal.main_arg0)
      ∧ r.2.mem ((d.tc : Thread Cert.KernelIdeal.nD Cert.KernelIdeal.τ).loc Cert.KernelIdeal.main_arg1) = m ((d.tc : Thread Cert.KernelIdeal.nD Cert.KernelIdeal.τ).loc Cert.KernelIdeal.main_arg1) :=
  ⟨(H.at d Cert.KernelIdeal.main_arg0 (by simp [endBufs])).trans (V4_arg0 m h d), (H.at d Cert.KernelIdeal.main_arg1 (by simp [endBufs])).trans (V4_arg1 m h d)⟩

/-- The kernel terminates without fault, its arguments unchanged and every counter at zero, whatever the floats. -/
theorem frame_any [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ H => ⟨fun c => QC.args H c, H.2⟩) (run_main (F := F) m ρ (inRange m))

end

/-- The kernel read at the extended reals. -/
theorem frame_kernelIdeal : Cert.quiescent_KernelIdeal := fun m ρ _ => frame_any (F := Ideal) m ρ

/-- The claim of the kernel read at the machine's floats, told of the other printing of the same text. -/
theorem frame_same : Cert.quiescent_Kernel
    = ∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (Cert.KernelIdeal.threads (F := Bits)) ⟨m, fun _ => 0, ρ⟩ fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0 := by sl_kernel_rfl

/-- The kernel read at the machine's floats. -/
theorem frame_kernel : Cert.quiescent_Kernel := frame_same.mpr fun m ρ _ => frame_any (F := Bits) m ρ

/-- The reference: it has no semaphore. -/
theorem frame_reference : Cert.quiescent_ReferenceIdeal := fun m ρ _ =>
  (θ_run Cert.ReferenceIdeal.defs _ _).mono (fun r H => ⟨fun c => (H c).2, sem_eq_zero_of_no_sems (by decide) r.2⟩)
    (Cert.ReferenceIdeal.Value.run (F := Ideal) m ρ)

end Cert.Poi

end
-- ==== Proof.Ref.lean ====
/-
  The reference's result, in named parts.
-/
module

public import proofs.«01_k».proof.Proof.Index
public import proofs.«01_k».proof.Proof.Gen.ReferenceIdeal.Run

@[expose] public section

noncomputable section

namespace Cert.Poi

open Cert.ReferenceIdeal Cert.ReferenceIdeal.Gen
open Idealize.ShloMosaic
open Idealize.ShloMosaic.TcCoe
open Idealize.ShloMosaic.StableHlo

variable {F : FTy → Type} [FloatOps F]

/-- The largest score of each 3 × 3 neighbourhood, −∞ beyond the edge. -/
def poolR (x : FVec F S8x3x192x640 .f32) : FVec F S8x3x192x640 .f32 :=
  Host.reduceWindow FloatOps.maximumf ![1, 1, 3, 3] ![1, 1, 1, 1] ![0, 0, 1, 1] ![0, 0, 1, 1] x
    (broadcastInDim S_ ![] bcast_S_S_ (constant S_ .f32 0xFF800000#32)) reduceWindows_S8x3x192x640_S8x3x192x640_w1s1p0_0_w1s1p0_0_w3s1p1_1_w3s1p1_1 h_S_
/-- The scores times one where they are the largest of their neighbourhood, zero elsewhere. -/
def keptR (x : FVec F S8x3x192x640 .f32) : FVec F S8x3x192x640 .f32 := mulf x (uitofp .f32 (cmpf .oeq (poolR x) x))

/-- The places as one column, a negative one counted from the end. -/
def wrapR (p : IVec S8x100 32) : IVec S8x100x1 32 :=
  select (cmpi .slt (broadcastInDim S8x100x1 ![0, 1] bcast_S8x100_S8x100x1_0_1 p) (broadcastInDim S8x100x1 ![] bcast_S_S8x100x1 (constantI S_ 32 0#32)))
    (addi (broadcastInDim S8x100x1 ![0, 1] bcast_S8x100_S8x100x1_0_1 p) (broadcastInDim S8x100x1 ![] bcast_S_S8x100x1 (constantI S_ 32 122880#32)))
    (broadcastInDim S8x100x1 ![0, 1] bcast_S8x100_S8x100x1_0_1 p)
/-- Where the place names a row of the map. -/
def insideR (p : IVec S8x100 32) : IVec S8x100 1 :=
  Host.reduce IntOp.andi (andi (cmpi .sge (wrapR p) (broadcastInDim S8x100x1 ![] bcast_S_S8x100x1 (constantI S_ 32 0#32)))
      (cmpi .sle (wrapR p) (broadcastInDim S8x100x1 ![0, 1, 2] bcast_S1x1x1_S8x100x1_0_1_2 (broadcastInDim S1x1x1 ![2] bcast_S1_S1x1x1_2 (constantI S1 32 122879#32)))))
    (constantI S_ 1 1#1) reducesTo_S8x100x1_S8x100_d2 h_S_
/-- The map with the channels last. -/
def lastR (w : FVec F S8x50x192x640 .f32) : FVec F S8x122880x50 .f32 :=
  shapeCast S8x122880x50 (transpose S8x192x640x50 [0, 2, 3, 1] w transposes_S8x50x192x640_S8x192x640x50_0_2_3_1) shapeCasts_S8x192x640x50_S8x122880x50
/-- The rows of the map at the places. -/
def pickR (w : FVec F S8x50x192x640 .f32) (p : IVec S8x100 32) : FVec F S8x100x50 .f32 :=
  select (broadcastInDim S8x100x50 ![0, 1] bcast_S8x100_S8x100x50_0_1 (insideR p))
    (Host.gather gather_S8x122880x50_S8x100x1_S8x100x50_2_1_0_0_1_2_1150 (lastR w) (wrapR p))
    (broadcastInDim S8x100x50 ![] bcast_S_S8x100x50 (constant S_ .f32 0x7FC00000#32))
/-- The result from the picked rows, the scores, the mask, the columns and the rows. -/
def joinR (g : FVec F S8x100x50 .f32) (s k : FVec F S800 .f32) (xs ys : FVec F S8x100 .f32) : FVec F S800x53 .f32 :=
  concatenate S800x53 1 [⟨S800x1, broadcastInDim S800x1 ![0] bcast_S800_S800x1_0 (mulf s k)⟩,
    ⟨S800x50, mulf (shapeCast S800x50 g shapeCasts_S8x100x50_S800x50)
      (broadcastInDim S800x50 ![0, 1] bcast_S800x1_S800x50_0_1 (broadcastInDim S800x1 ![0] bcast_S800_S800x1_0 k))⟩,
    ⟨S800x2, mulf (concatenate S800x2 1 [⟨S800x1, shapeCast S800x1 xs shapeCasts_S8x100_S800x1⟩, ⟨S800x1, shapeCast S800x1 ys shapeCasts_S8x100_S800x1⟩]
        concatenates_S800x1_S800x1_S800x2_d1)
      (broadcastInDim S800x2 ![0, 1] bcast_S800x1_S800x2_0_1 (broadcastInDim S800x1 ![0] bcast_S800_S800x1_0 k))⟩]
    concatenates_S800x1_S800x50_S800x2_S800x53_d1
/-- The reference's result from the scores kept, in rows, and the map. -/
def outR (x : FVec F S8x368640 .f32) (w : FVec F S8x50x192x640 .f32) : FVec F S800x53 .f32 :=
  joinR (pickR w (placeT x)) (scoreT x) (maskT x) (sitofp .f32 (remT (placeT x) (constantI S_ 32 640#32))) (sitofp .f32 (divT (placeT x) (constantI S_ 32 640#32)))

set_option maxRecDepth 16384 in
/-- The reference's composed term is that function of its two arguments. -/
theorem reference_fold (m : (ℓ : Loc nD τ sig) → Buf (Elt F) ℓ) (c : Dev nD) :
    Cert.ReferenceIdeal.Value.res_out0 m c
      = outR (flat (keptR (m ((c.tc : Thread nD τ).loc main_arg0)))) (m ((c.tc : Thread nD τ).loc main_arg1)) := by
  unfold Cert.ReferenceIdeal.Value.res_out0 Cert.ReferenceIdeal.Value.res_main_v32
  rfl

end Cert.Poi

end
-- ==== Proof.Pick.lean ====
/-
  The gather, both ways: a word of the flat table at the computed address, and a row of the table with the channels last.
-/
module

public import proofs.«01_k».proof.Proof.Ref

@[expose] public section

noncomputable section

namespace Cert.Poi

open Cert.ReferenceIdeal Cert.ReferenceIdeal.Gen
open Idealize.ShloMosaic
open Idealize.ShloMosaic.TcCoe
open Idealize.ShloMosaic.StableHlo

variable {F : FTy → Type} [FloatOps F]

/-- A word below 122880 is not negative. -/
theorem not_slt (w : BitVec 32) (hw : w.toNat < 122880) : IntOp.cmpi .slt w 0#32 = 0#1 := by
  have h : w.slt 0#32 = false := by
    rw [BitVec.slt_eq_decide, decide_eq_false_iff_not, BitVec.toInt_eq_toNat_cond]
    simp
    omega
  simp only [IntOp.cmpi, h]; rfl
/-- It is at least zero -/
theorem zero_sle (w : BitVec 32) (hw : w.toNat < 122880) : IntOp.cmpi .sge w 0#32 = 1#1 := by
  have h : (0#32).sle w = true := by
    rw [BitVec.sle_eq_decide, decide_eq_true_iff, BitVec.toInt_eq_toNat_cond w]
    simp
    omega
  simp only [IntOp.cmpi, h]; rfl
/-- and at most 122879. -/
theorem sle_last (w : BitVec 32) (hw : w.toNat < 122880) : IntOp.cmpi .sle w 122879#32 = 1#1 := by
  have h : w.sle 122879#32 = true := by
    rw [BitVec.sle_eq_decide, decide_eq_true_iff, BitVec.toInt_eq_toNat_cond w]
    simp
    omega
  simp only [IntOp.cmpi, h]; rfl

/-- A place below the size of a plane is not counted from the end, -/
theorem wrap_at (p : IVec S8x100 32) (hp : ∀ j, (p j).toNat < 122880) (i : Fin 8) (k : Fin 100) (z : Fin 1) : wrapR p (ix3 i k z) = p (ix2 i k) := by
  pointwise [wrapR]
  rw [not_slt _ (hp _)]
  rfl
/-- and names a row. -/
theorem inside_at (p : IVec S8x100 32) (hp : ∀ j, (p j).toNat < 122880) (i : Fin 8) (k : Fin 100) : insideR p (ix2 i k) = 1#1 := by
  pointwise [insideR]
  simp only [wrap_at p hp, zero_sle _ (hp _), sle_last _ (hp _)]
  rfl

/-- The map with the channels last: row `q` holds the channels at line `q / 640`, column `q % 640`. -/
theorem last_at (w : FVec F S8x50x192x640 .f32) (i : Fin 8) (q : Fin 122880) (c : Fin 50) :
    lastR w (ix3 i q c) = w (ix4 i c ⟨q / 640, by omega⟩ ⟨q % 640, by omega⟩) := by
  pointwise [lastR]

/-- The gather takes, of each image, the row that the index names. -/
theorem gather_at {α : Type} (x : S8x122880x50.Idx → α) (q : IVec S8x100x1 32) (i : Fin 8) (k : Fin 100) (c : Fin 50) (hq : (q (ix3 i k 0)).toNat < 122880) :
    Host.gather gather_S8x122880x50_S8x100x1_S8x100x50_2_1_0_0_1_2_1150 x q (ix3 i k c) = x (ix3 i ⟨(q (ix3 i k 0)).toNat, hq⟩ c) := by
  unfold Host.gather
  refine congrArg x (funext fun a => Fin.ext ?_)
  have ht : (q (ix3 i k 0)).toInt.toNat = (q (ix3 i k 0)).toNat := by
    rw [BitVec.toInt_eq_toNat_cond]; split_ifs <;> omega
  match a with
  | ⟨0, _⟩ =>
    show 0 + (i : ℕ) + 0 = (i : ℕ)
    omega
  | ⟨1, _⟩ =>
    show min (q _).toInt.toNat (122880 - 1) + 0 + 0 = (q (ix3 i k 0)).toNat
    have e : (gather_S8x122880x50_S8x100x1_S8x100x50_2_1_0_0_1_2_1150).siIdx (ix3 i k c) ⟨0, Nat.one_pos⟩ = ix3 i k 0 := by
      funext b
      refine Fin.ext ?_
      match b with
      | ⟨0, _⟩ => rfl
      | ⟨1, _⟩ => rfl
      | ⟨2, _⟩ => rfl
    refine (congrArg (fun b => min (q b).toInt.toNat (122880 - 1) + 0 + 0) e).trans ?_
    simp only [ht]
    omega
  | ⟨2, _⟩ => exact Nat.zero_add _

/-- The picked rows, at the image, the peak and the channel. -/
theorem pick_at (w : FVec F S8x50x192x640 .f32) (p : IVec S8x100 32) (hp : ∀ j, (p j).toNat < 122880) (i : Fin 8) (k : Fin 100) (c : Fin 50) :
    pickR w p (ix3 i k c) = w (ix4 i c ⟨(p (ix2 i k)).toNat / 640, by have := hp (ix2 i k); omega⟩ ⟨(p (ix2 i k)).toNat % 640, by omega⟩) := by
  have hw : (wrapR p (ix3 i k 0)).toNat < 122880 := by rw [wrap_at p hp]; exact hp _
  pointwise [pickR]
  rw [inside_at p hp, gather_at _ _ i k c hw, last_at]
  simp only [wrap_at p hp]
  rfl

/-- A word of the flat table. -/
theorem word_at (w : FVec F S8x50x192x640 .f32) (n : ℕ) (h : n < 49152000) :
    word (shapeCast Cert.KernelIdeal.S49152000 w Cert.KernelIdeal.Gen.shapeCasts_S8x50x192x640_S49152000) n h
      = w (ix4 ⟨n / 6144000, by omega⟩ ⟨n / 122880 % 50, by omega⟩ ⟨n / 640 % 192, by omega⟩ ⟨n % 640, by omega⟩) := by
  have e : word (shapeCast Cert.KernelIdeal.S49152000 w Cert.KernelIdeal.Gen.shapeCasts_S8x50x192x640_S49152000) n h
      = shapeCast Cert.KernelIdeal.S49152000 w Cert.KernelIdeal.Gen.shapeCasts_S8x50x192x640_S49152000 (ix1 ⟨n, h⟩) :=
    congrArg (shapeCast Cert.KernelIdeal.S49152000 w Cert.KernelIdeal.Gen.shapeCasts_S8x50x192x640_S49152000)
      (funext fun a => match a with | ⟨0, _⟩ => rfl)
  rw [e]
  pointwise

/-- The two gathers agree: the word at the address of a place and a channel is that channel of the place's row. -/
theorem word_pick (w : FVec F S8x50x192x640 .f32) (p : IVec S8x100 32) (hp : ∀ j, (p j).toNat < 122880) (j : S8x100x50.Idx)
    (h : (addrT p j).toNat < 49152000) :
    word (shapeCast Cert.KernelIdeal.S49152000 w Cert.KernelIdeal.Gen.shapeCasts_S8x50x192x640_S49152000) (addrT p j).toNat h = pickR w p j := by
  obtain ⟨i, k, c, rfl⟩ : ∃ (i : Fin 8) (k : Fin 100) (c : Fin 50), j = ix3 i k c := ⟨j 0, j 1, j 2, eq_ix3 j⟩
  have hq := hp (ix2 i k)
  rw [word_at, pick_at w p hp]
  have e := addr_val p hp i k c
  congr 2 <;> first | (apply Fin.ext; simp only [e]; omega) | rfl

end Cert.Poi

end
-- ==== Proof.Keep.lean ====
/-
  The scores kept: the kernel's shifted maxima and the reference's window maximum, over the extended reals.
-/
module

public import proofs.«01_k».proof.Proof.Ref
public import proofs.«01_k».proof.Proof.Gen.KernelIdeal.Points

@[expose] public section

noncomputable section

namespace Cert.Poi

open Cert.KernelIdeal Cert.KernelIdeal.Gen
open Idealize.ShloMosaic
open Idealize.ShloMosaic.TcCoe
open Idealize.ShloMosaic.StableHlo

/-! ## Neighbours -/

/-- One apart at most. -/
def Near (h i : ℕ) : Prop := i ≤ h + 1 ∧ h ≤ i + 1

/-- The maximum of an entry and its two neighbours, −∞ beyond either end, is bounded by what bounds every entry near it. -/
theorem three_le {n m : ℕ} (hm : m + 1 = n) (f : Fin n → EReal) (h : Fin n) (z : EReal) :
    max (max (f h) (if hl : (h : ℕ) < m then f ⟨1 + h, by omega⟩ else ⊥)) (if hl : (h : ℕ) < 1 then ⊥ else f ⟨h - 1, by omega⟩) ≤ z
      ↔ ∀ i : Fin n, Near h i → f i ≤ z := by
  simp only [max_le_iff]
  constructor
  · rintro ⟨⟨h0, h1⟩, h2⟩ i ⟨hi, hj⟩
    rcases Nat.lt_trichotomy i h with hlt | heq | hgt
    · have e : i = ⟨h - 1, by omega⟩ := Fin.ext (by simp only; omega)
      rw [dif_neg (by omega)] at h2
      rw [e]; exact h2
    · rw [Fin.ext heq]; exact h0
    · have e : i = ⟨1 + h, by omega⟩ := Fin.ext (by simp only; omega)
      rw [dif_pos (by omega)] at h1
      rw [e]; exact h1
  · intro H
    refine ⟨⟨H h ⟨by omega, by omega⟩, ?_⟩, ?_⟩
    · split
      · exact H _ ⟨by simp only; omega, by simp only; omega⟩
      · exact bot_le
    · split
      · exact bot_le
      · exact H _ ⟨by simp only; omega, by simp only; omega⟩

/-- A maximum folded over a list is bounded by what bounds its start and every member. -/
theorem fold_le {α : Type} (f : α → EReal) (l : List α) (v z : EReal) :
    l.foldl (fun r n => max r (f n)) v ≤ z ↔ v ≤ z ∧ ∀ n ∈ l, f n ≤ z := by
  induction l generalizing v with
  | nil => simp
  | cons a l ih => simp [ih, max_le_iff, and_assoc]

/-- The scores are compared with −∞ beyond the planes. -/
theorem floor_eq : Ideal.ofBits .f32 0xFF800000#32 = ⊥ := by simp [Ideal.ofBits, Ideal.ieee]

/-! ## The kernel's maxima -/

/-- The plane without its unit axes. -/
def flatP (P : FVec Ideal S1x1x192x640 .f32) : FVec Ideal S192x640 .f32 := shapeCast S192x640 P shapeCasts_S1x1x192x640_S192x640
/-- The maximum of each entry and those above and below; -/
def downK (v : FVec Ideal S192x640 .f32) : FVec Ideal S192x640 .f32 :=
  maximumf (maximumf v (concatenate S192x640 0 [⟨S191x640, extractStridedSlice S191x640 ![1, 0] v slices_S192x640_o1_0_S191x640⟩,
      ⟨S1x640, broadcast S1x640 (Scalar.ofBits .f32 0xFF800000#32)⟩] concatenates_S191x640_S1x640_S192x640_d0))
    (concatenate S192x640 0 [⟨S1x640, broadcast S1x640 (Scalar.ofBits .f32 0xFF800000#32)⟩,
      ⟨S191x640, extractStridedSlice S191x640 ![0, 0] v slices_S192x640_o0_0_S191x640⟩] concatenates_S1x640_S191x640_S192x640_d0)
/-- of each entry and those left and right. -/
def acrossK (v : FVec Ideal S192x640 .f32) : FVec Ideal S192x640 .f32 :=
  maximumf (maximumf v (concatenate S192x640 1 [⟨S192x639, extractStridedSlice S192x639 ![0, 1] v slices_S192x640_o0_1_S192x639⟩,
      ⟨S192x1, broadcast S192x1 (Scalar.ofBits .f32 0xFF800000#32)⟩] concatenates_S192x639_S192x1_S192x640_d1))
    (concatenate S192x640 1 [⟨S192x1, broadcast S192x1 (Scalar.ofBits .f32 0xFF800000#32)⟩,
      ⟨S192x639, extractStridedSlice S192x639 ![0, 0] v slices_S192x640_o0_0_S192x639⟩] concatenates_S192x1_S192x639_S192x640_d1)

/-- What the kernel stores of a plane. -/
theorem pay_eq (P : FVec Ideal S1x1x192x640 .f32) : k0_pay1 P
    = shapeCast S1x1x192x640 (select (cmpf .oeq (acrossK (downK (flatP P))) (flatP P)) (flatP P) (broadcast S192x640 (Scalar.ofBits .f32 0x00000000#32)))
        shapeCasts_S192x640_S1x1x192x640 := rfl

/-- Down the columns, the maximum is bounded by what bounds the entries near. -/
theorem col_le (v : FVec Ideal S192x640 .f32) (h : Fin 192) (w : Fin 640) (z : EReal) :
    downK v (ix2 h w) ≤ z ↔ ∀ i : Fin 192, Near h i → v (ix2 i w) ≤ z := by
  refine Iff.trans ?_ (three_le rfl (fun i => v (ix2 i w)) h z)
  pointwise [downK]
  rw [floor_eq]

/-- Across the rows likewise. -/
theorem row_le (v : FVec Ideal S192x640 .f32) (h : Fin 192) (w : Fin 640) (z : EReal) :
    acrossK v (ix2 h w) ≤ z ↔ ∀ j : Fin 640, Near w j → v (ix2 h j) ≤ z := by
  refine Iff.trans ?_ (three_le rfl (fun j => v (ix2 h j)) w z)
  pointwise [acrossK]
  rw [floor_eq]

/-! ## The reference's maximum -/

/-- The window's maximum is bounded by what bounds every entry near in both directions. -/
theorem pool_le (x : FVec Ideal S8x3x192x640 .f32) (b : Fin 8) (c : Fin 3) (h : Fin 192) (w : Fin 640) (z : EReal) :
    poolR x (ix4 b c h w) ≤ z ↔ ∀ j : Fin 640, Near w j → ∀ i : Fin 192, Near h i → x (ix4 b c i j) ≤ z := by
  unfold poolR Host.reduceWindow
  refine (fold_le _ _ _ _).trans ?_
  pointwise
  rw [floor_eq]
  simp only [bot_le, true_and, List.mem_finRange, true_imp_iff]
  constructor
  · intro H j hj i hi
    unfold Near at hi hj
    have h0 := H ((⟨4, ![1, 1, 3, 3]⟩ : Shape).rowMajor (ix4 0 0 ⟨i + 1 - h, by omega⟩ ⟨j + 1 - w, by omega⟩))
    simp only [Equiv.symm_apply_apply] at h0
    rw [dif_pos (by
      show (1 ≤ (h : ℕ) + (i + 1 - h) ∧ (h : ℕ) + (i + 1 - h) - 1 < 192) ∧ 1 ≤ (w : ℕ) + (j + 1 - w) ∧ (w : ℕ) + (j + 1 - w) - 1 < 640
      omega)] at h0
    refine le_of_eq_of_le (congrArg x (funext fun a => Fin.ext ?_)) h0
    match a with
    | ⟨0, _⟩ => show (b : ℕ) = b * 1 + 0 - 0; omega
    | ⟨1, _⟩ => show (c : ℕ) = c * 1 + 0 - 0; omega
    | ⟨2, _⟩ => show (i : ℕ) = h * 1 + (i + 1 - h) - 1; omega
    | ⟨3, _⟩ => show (j : ℕ) = w * 1 + (j + 1 - w) - 1; omega
  · intro H n
    obtain ⟨u, rfl⟩ := (⟨4, ![1, 1, 3, 3]⟩ : Shape).rowMajor.surjective n
    simp only [Equiv.symm_apply_apply]
    split
    · rename_i hin
      have h2 : (u 2 : ℕ) < 3 := (u 2).isLt
      have h3 : (u 3 : ℕ) < 3 := (u 3).isLt
      have h0 := H ⟨w + u 3 - 1, hin.2.2⟩ ⟨by simp only; omega, by simp only; omega⟩ ⟨h + u 2 - 1, hin.1.2⟩ ⟨by simp only; omega, by simp only; omega⟩
      refine le_of_eq_of_le (congrArg x (funext fun a => Fin.ext ?_)) h0
      match a with
      | ⟨0, _⟩ =>
        have hb : (u 0 : ℕ) < 1 := (u 0).isLt
        show (b : ℕ) * 1 + u 0 - 0 = b; omega
      | ⟨1, _⟩ =>
        have hc : (u 1 : ℕ) < 1 := (u 1).isLt
        show (c : ℕ) * 1 + u 1 - 0 = c; omega
      | ⟨2, _⟩ => show (h : ℕ) * 1 + u 2 - 1 = h + u 2 - 1; omega
      | ⟨3, _⟩ => show (w : ℕ) * 1 + u 3 - 1 = w + u 3 - 1; omega
    · exact bot_le

/-- What the kernel stores of plane (b, c) is what the reference keeps there: both keep a score that equals the maximum, and zero elsewhere. -/
theorem keep_at (P : FVec Ideal S1x1x192x640 .f32) (x : FVec Ideal S8x3x192x640 .f32) (b : Fin 8) (c : Fin 3) (h : Fin 192) (w : Fin 640)
   (hP : ∀ h w, P (ix4 0 0 h w) = x (ix4 b c h w)) : k0_pay1 P (ix4 0 0 h w) = keptR x (ix4 b c h w) := by
  have e : acrossK (downK (flatP P)) (ix2 h w) = poolR x (ix4 b c h w) := by
    refine eq_of_forall_ge_iff fun z => ?_
    have hf : ∀ i j, flatP P (ix2 i j) = x (ix4 b c i j) := fun i j => by
      pointwise [flatP]
      exact hP i j
    simp only [row_le, col_le, pool_le, hf]
  have hf : flatP P (ix2 h w) = x (ix4 b c h w) := by
    pointwise [flatP]
    exact hP h w
  rw [pay_eq]
  pointwise [keptR]
  rw [e, hf]
  by_cases hq : poolR x (ix4 b c h w) = x (ix4 b c h w)
  · rw [if_pos hq, hq]
    simp [FloatOps.uitofp]
  · rw [if_neg hq]
    simp [FloatOps.uitofp, hq]

/-! ## The array of kept scores -/

/-- Point t of the pipeline is plane t % 3 of image t / 3, where it reads -/
theorem index_in : ∀ t : Fin grid0.N, win0_0.index t 0 = t / 3 ∧ win0_0.index t 1 = t % 3 ∧ win0_0.index t 2 = 0 ∧ win0_0.index t 3 = 0 := by
  decide +kernel
/-- and where it writes. -/
theorem index_out : ∀ t : Fin grid0.N, win0_1.index t 0 = t / 3 ∧ win0_1.index t 1 = t % 3 ∧ win0_1.index t 2 = 0 ∧ win0_1.index t 3 = 0 := by
  decide +kernel
/-- A written block is one whole plane. -/
theorem extent_out : ∀ t : Fin grid0.N, win0_1.xsize (grid0.coords t) 0 = 1 ∧ win0_1.xsize (grid0.coords t) 1 = 1
    ∧ win0_1.xsize (grid0.coords t) 2 = 192 ∧ win0_1.xsize (grid0.coords t) 3 = 640 := by
  decide +kernel

/-- The image of a point, -/
def imgOf (t : Fin cfg0.N) : Fin 8 := ⟨t / 3, by have : (t : ℕ) < 24 := t.isLt; omega⟩
/-- and its plane. -/
def chOf (t : Fin cfg0.N) : Fin 3 := ⟨t % 3, by omega⟩

variable (V : (d : Dev nD) → (b : Ref sig .tc) → Buf (Elt Ideal) ((d : Thread nD τ).loc b))

/-- The plane staged, entry by entry. -/
theorem plane_at (d : Dev nD) (t : Fin cfg0.N) (h : Fin 192) (w : Fin 640) :
    plane V d t (ix4 0 0 h w) = V d main_arg0 (ix4 (imgOf t) (chOf t) h w) := by
  obtain ⟨e0, e1, e2, e3⟩ := index_in t
  refine congrArg (V d main_arg0) (funext fun a => Fin.ext ((win0_0.rect_emb_val t (ix4 0 0 h w) a).trans ?_))
  match a with
  | ⟨0, _⟩ => show win0_0.index t 0 * 1 + 0 = (t : ℕ) / 3; omega
  | ⟨1, _⟩ => show win0_0.index t 1 * 1 + 0 = (t : ℕ) % 3; omega
  | ⟨2, _⟩ => show win0_0.index t 2 * 192 + h = (h : ℕ); rw [e2]; omega
  | ⟨3, _⟩ => show win0_0.index t 3 * 640 + w = (w : ℕ); rw [e3]; omega

/-- A block of the result array, entry by entry. -/
theorem block_at (d : Dev nD) (G : Buf (Elt Ideal) ((d : Thread nD τ).loc main_v0)) (t : Fin cfg0.N) (h : Fin 192) (w : Fin 640) :
    ((cfg0.win 1).blk t).view.read (Elt Ideal) G (ix4 0 0 h w) = G (ix4 (imgOf t) (chOf t) h w) := by
  obtain ⟨e0, e1, e2, e3⟩ := index_out t
  refine congrArg G (funext fun a => Fin.ext ((win0_1.rect_emb_val t (ix4 0 0 h w) a).trans ?_))
  match a with
  | ⟨0, _⟩ => show win0_1.index t 0 * 1 + 0 = (t : ℕ) / 3; omega
  | ⟨1, _⟩ => show win0_1.index t 1 * 1 + 0 = (t : ℕ) % 3; omega
  | ⟨2, _⟩ => show win0_1.index t 2 * 192 + h = (h : ℕ); rw [e2]; omega
  | ⟨3, _⟩ => show win0_1.index t 3 * 640 + w = (w : ℕ); rw [e3]; omega

/-- Every entry of the result array is in the block of its plane. -/
theorem planes_cover (i : S8x3x192x640.Idx) : ∃ t : Fin cfg0.N, (cfg0.win 1).flush t = true ∧ i ∈ ((cfg0.win 1).blk t).view.set := by
  have h0 : (i 0 : ℕ) < 8 := (i 0).isLt
  have h1 : (i 1 : ℕ) < 3 := (i 1).isLt
  have h2 : (i 2 : ℕ) < 192 := (i 2).isLt
  have h3 : (i 3 : ℕ) < 640 := (i 3).isLt
  let t : Fin grid0.N := ⟨i 0 * 3 + i 1, by show _ < 24; omega⟩
  have ht : (t : ℕ) = i 0 * 3 + i 1 := rfl
  obtain ⟨e0, e1, e2, e3⟩ := index_out t
  obtain ⟨s0, s1, s2, s3⟩ := extent_out t
  refine ⟨t, flush0_1 t, ?_⟩
  show i ∈ ((View.whole main_v0).slice (win0_1.rect t)).set
  rw [View.set_slice_whole, win0_1.mem_rect_iff]
  intro a
  match a with
  | ⟨0, _⟩ => show win0_1.index t 0 * 1 ≤ (i 0 : ℕ) ∧ (i 0 : ℕ) < win0_1.index t 0 * 1 + win0_1.xsize (grid0.coords t) 0; rw [e0, s0, ht]; omega
  | ⟨1, _⟩ => show win0_1.index t 1 * 1 ≤ (i 1 : ℕ) ∧ (i 1 : ℕ) < win0_1.index t 1 * 1 + win0_1.xsize (grid0.coords t) 1; rw [e1, s1, ht]; omega
  | ⟨2, _⟩ => show win0_1.index t 2 * 192 ≤ (i 2 : ℕ) ∧ (i 2 : ℕ) < win0_1.index t 2 * 192 + win0_1.xsize (grid0.coords t) 2; rw [e2, s2]; omega
  | ⟨3, _⟩ => show win0_1.index t 3 * 640 ≤ (i 3 : ℕ) ∧ (i 3 : ℕ) < win0_1.index t 3 * 640 + win0_1.xsize (grid0.coords t) 3; rw [e3, s3]; omega

/-- The suppression call leaves the scores the reference keeps. -/
theorem kept_eq (d : Dev nD) : kept V d = keptR (F := Ideal) (V d main_arg0) :=
  (nmsDat V d).arrAt_eq_of_cover 1 (keptR (F := Ideal) (V d main_arg0)) (fun t _ => by
    show k0_pay1 (plane V d t) = _
    funext j
    obtain ⟨p, q, h, w, rfl⟩ : ∃ (p q : Fin 1) (h : Fin 192) (w : Fin 640), j = ix4 p q h w := ⟨j 0, j 1, j 2, j 3, eq_ix4 j⟩
    obtain rfl : p = 0 := Subsingleton.elim _ _
    obtain rfl : q = 0 := Subsingleton.elim _ _
    exact (keep_at _ _ (imgOf t) (chOf t) h w fun h w => plane_at V d t h w).trans (block_at d _ t h w).symm) planes_cover

/-- So do the kept scores of the program. -/
theorem keptScores_eq (m : (ℓ : Loc nD τ sig) → Buf (Elt Ideal) ℓ) (d : Dev nD) :
    keptScores m d = keptR (F := Ideal) (m ((d.tc : Thread nD τ).loc main_arg0)) := kept_eq _ d

end Cert.Poi

end
-- ==== Proof.Value.lean ====
/-
  The value claim: at the extended reals the kernel's result is the reference's.
-/
module

public import proofs.«01_k».proof.Proof.Pick
public import proofs.«01_k».proof.Proof.Keep
public import proofs.«01_k».proof.Proof.Frames

@[expose] public section

noncomputable section

namespace Cert.Poi

open Cert.KernelIdeal Cert.KernelIdeal.Gen
open Idealize.ShloMosaic
open Idealize.ShloMosaic.TcCoe
open Idealize.ShloMosaic.StableHlo

variable {F : FTy → Type} [FloatOps F]

/-! ## The gathered rows -/

/-- The rows without their padding. -/
abbrev unpad {α : Type} (g : S32x1280.Idx → α) : S32x1250.Idx → α := extractStridedSlice S32x1250 ![0, 0] g slices_S32x1280_S32x1250_0_0
/-- The mask at every channel of its peak. -/
def maskB (k : FVec F S800 .f32) : FVec F S8x100x50 .f32 :=
  broadcastInDim S8x100x50 ![0, 1, 2] bcast_S8x100x1_S8x100x50_0_1_2 (shapeCast S8x100x1 k shapeCasts_S800_S8x100x1)

/-- The addresses without the padding, -/
theorem unpad_addr (p : IVec S8x100 32) : unpad (addrRows p) = shapeCast S32x1250 (addrT p) shapeCasts_S8x100x50_S32x1250 := by
  generalize hX : shapeCast S32x1250 (addrT p) shapeCasts_S8x100x50_S32x1250 = X
  unfold addrRows
  rw [hX]
  funext j
  idx_vars j
  pointwise [unpad]
/-- and the mask without it. -/
theorem unpad_mask (k : FVec F S800 .f32) : unpad (maskRows k) = shapeCast S32x1250 (maskB k) shapeCasts_S8x100x50_S32x1250 := by
  generalize hX : shapeCast S32x1250 (maskB k) shapeCasts_S8x100x50_S32x1250 = X
  unfold maskB at hX
  unfold maskRows
  rw [hX]
  funext j
  idx_vars j
  pointwise [unpad]

/-- A word depends on its address alone. -/
theorem word_congr {t : FVec F S49152000 .f32} {n n' : ℕ} (e : n = n') (h : n < 49152000) : word t n h = word t n' (e ▸ h) := by
  subst e; rfl

/-- The gathered rows of a call's operands, unpadded: the picked rows times the mask. -/
theorem unpad_call (o : Ops F) (h : o.InRange) (p : IVec S8x100 32) (hp : ∀ j, (p j).toNat < 122880) (k : FVec F S800 .f32) (w : FVec F S8x50x192x640 .f32)
    (ha : o.a = addrRows p) (hk : o.k = maskRows k) (ht : o.t = shapeCast S49152000 w shapeCasts_S8x50x192x640_S49152000) :
    unpad (o.res h) = shapeCast S32x1250 (mulf (pickR w p) (maskB k)) shapeCasts_S8x100x50_S32x1250 := by
  obtain ⟨a, k', t⟩ := o
  subst ht
  have ha := (congrArg unpad ha).trans (unpad_addr p)
  have hk := (congrArg unpad hk).trans (unpad_mask k)
  funext j
  refine congrArg₂ FloatOps.mulf ?_ (congrFun hk j)
  exact (word_congr (congrArg BitVec.toNat (congrFun ha j)) _).trans (word_pick w p hp _ _)

variable (m : (ℓ : Loc nD τ sig) → Buf (Elt F) ℓ)

/-- The rows the program's call leaves, unpadded. -/
theorem unpad_res (h : (operands m).InRange) : unpad ((operands m).res h)
    = shapeCast S32x1250 (mulf (pickR (table m 0) (placeT (scores m 0))) (maskB (maskT (scores m 0)))) shapeCasts_S8x100x50_S32x1250 :=
  unpad_call (operands m) h (placeT (scores m 0)) (place_lt _) (maskT (scores m 0)) (table m 0) (operands_a m) (operands_k m) (operands_t m)

/-! ## The results -/

/-- A vector as one column. -/
theorem col_cast (x : FVec F S8x100 .f32) : broadcastInDim S800x1 ![0] bcast_S800_S800x1_0 (shapeCast S800 x shapeCasts_S8x100_S800)
    = shapeCast S800x1 x Cert.ReferenceIdeal.Gen.shapeCasts_S8x100_S800x1 := by
  funext j
  idx_vars j
  pointwise
/-- The mask by peak and channel. -/
theorem mask_cast (k : FVec F S800 .f32) : shapeCast S800x50 (maskB k) Cert.ReferenceIdeal.Gen.shapeCasts_S8x100x50_S800x50
    = broadcastInDim S800x50 ![0, 1] Cert.ReferenceIdeal.Gen.bcast_S800x1_S800x50_0_1 (broadcastInDim S800x1 ![0] bcast_S800_S800x1_0 k) := by
  funext j
  idx_vars j
  pointwise [maskB]

/-- The kernel's result is the reference's function of the scores kept and the map. -/
theorem result_eq (h : (operands m).InRange) : V4 m h 0 (dref main_v47) = outR (scores m 0) (table m 0) := by
  rw [V4_result]
  unfold outR endT joinR
  have e : shapeCast S800x50 (unpad ((operands m).res h)) shapeCasts_S32x1250_S800x50
      = mulf (shapeCast S800x50 (pickR (table m 0) (placeT (scores m 0))) Cert.ReferenceIdeal.Gen.shapeCasts_S8x100x50_S800x50)
        (broadcastInDim S800x50 ![0, 1] Cert.ReferenceIdeal.Gen.bcast_S800x1_S800x50_0_1 (broadcastInDim S800x1 ![0] bcast_S800_S800x1_0 (maskT (scores m 0)))) := by
    rw [unpad_res, shapeCast_comp, ← mask_cast]
    rfl
  simp only [unpad] at e
  rw [e, col_cast, col_cast]

/-- At the extended reals, on equal arguments, the reference's result is the kernel's. -/
theorem results_agree (m : (ℓ : Loc nD τ sig) → Buf (Elt Ideal) ℓ)
    (m' : (ℓ : Loc Cert.ReferenceIdeal.nD Cert.ReferenceIdeal.τ Cert.ReferenceIdeal.sig) → Buf (Elt Ideal) ℓ)
    (h0 : m' (((0 : Dev Cert.ReferenceIdeal.nD).tc : Thread Cert.ReferenceIdeal.nD Cert.ReferenceIdeal.τ).loc Cert.ReferenceIdeal.main_arg0)
      = m (((0 : Dev nD).tc : Thread nD τ).loc main_arg0))
    (h1 : m' (((0 : Dev Cert.ReferenceIdeal.nD).tc : Thread Cert.ReferenceIdeal.nD Cert.ReferenceIdeal.τ).loc Cert.ReferenceIdeal.main_arg1)
      = m (((0 : Dev nD).tc : Thread nD τ).loc main_arg1)) :
    Cert.ReferenceIdeal.Value.res_out0 m' 0 = V4 m (inRange m) 0 (dref main_v47) := by
  rw [reference_fold, result_eq, h0, h1]
  unfold scores table
  rw [keptScores_eq]

/-- The value claim: both programs end, their arguments unchanged, with one and the same result. -/
theorem algebraic : Cert.algebraic_KernelIdeal_ReferenceIdeal := fun m g m' g' _ hargs =>
  ⟨fun c => V4 m (inRange m) c (dref main_v47),
    (θ_run Cert.KernelIdeal.defs _ _).mono (fun _ H c => ⟨QC.at H c main_v47 (by simp [endBufs]), QC.args H c⟩) (run_main (F := Ideal) m g (inRange m)),
    (θ_run Cert.ReferenceIdeal.defs _ _).mono (fun _ H c => by
      obtain rfl : c = 0 := Subsingleton.elim _ _
      exact ⟨(H 0).1.trans (results_agree m m' (hargs 0).1 (hargs 0).2), (H 0).2⟩) (Cert.ReferenceIdeal.Value.run (F := Ideal) m' g')⟩

end Cert.Poi

end
-- ==== Proof.lean ====
/-
  The claims of this directory: the frames of the kernel and of the reference, that the idealized kernel is the kernel's own text,
  and that at the extended reals the kernel computes what the reference does.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts,
    Cert.Poi.frame_kernel, Cert.Poi.frame_kernelIdeal, Cert.Poi.frame_reference, trivial, Cert.Poi.algebraic⟩

end Cert.Proof

end
